-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_rotary [hPre_finite_rotary : Cert.Pre_finite_rotary.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite_rotary.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_rotary [hPre_finite_rotary : Cert.Pre_finite_rotary.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite_rotary.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_rotary [hKernel3Ideal : Cert.Kernel3Ideal.Facts] [hPre_finite_rotary : Cert.Pre_finite_rotary.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_rotary m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_rotary [hReference3Ideal : Cert.Reference3Ideal.Facts] [hPre_finite_rotary : Cert.Pre_finite_rotary.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_rotary m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal_pre_finite_rotary [hKernel3Ideal : Cert.Kernel3Ideal.Facts] [hReference3Ideal : Cert.Reference3Ideal.Facts] [hPre_finite_rotary : Cert.Pre_finite_rotary.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_rotary m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v101_0)) (v1 : (c : Dev Cert.Kernel3Ideal.nD) → Buf (Elt Ideal) ((c.tc : Thread Cert.Kernel3Ideal.nD Cert.Kernel3Ideal.τ).loc Cert.Kernel3Ideal.main_v101_1)) (v2 : (c : Dev Cert.Kernel3Ideal.nD) → Buf (Elt Ideal) ((c.tc : Thread Cert.Kernel3Ideal.nD Cert.Kernel3Ideal.τ).loc Cert.Kernel3Ideal.main_v101_2)) (v3 : (c : Dev Cert.Kernel3Ideal.nD) → Buf (Elt Ideal) ((c.tc : Thread Cert.Kernel3Ideal.nD Cert.Kernel3Ideal.τ).loc Cert.Kernel3Ideal.main_v101_3)) (v4 : (c : Dev Cert.Kernel3Ideal.nD) → Buf (Elt Ideal) ((c.tc : Thread Cert.Kernel3Ideal.nD Cert.Kernel3Ideal.τ).loc Cert.Kernel3Ideal.main_v101_4)) (v5 : (c : Dev Cert.Kernel3Ideal.nD) → Buf (Elt Ideal) ((c.tc : Thread Cert.Kernel3Ideal.nD Cert.Kernel3Ideal.τ).loc Cert.Kernel3Ideal.main_v101_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v101_0) = v0 c
          ∧ r.2.mem ((c.tc : Thread Cert.Kernel3Ideal.nD Cert.Kernel3Ideal.τ).loc Cert.Kernel3Ideal.main_v101_1) = v1 c
          ∧ r.2.mem ((c.tc : Thread Cert.Kernel3Ideal.nD Cert.Kernel3Ideal.τ).loc Cert.Kernel3Ideal.main_v101_2) = v2 c
          ∧ r.2.mem ((c.tc : Thread Cert.Kernel3Ideal.nD Cert.Kernel3Ideal.τ).loc Cert.Kernel3Ideal.main_v101_3) = v3 c
          ∧ r.2.mem ((c.tc : Thread Cert.Kernel3Ideal.nD Cert.Kernel3Ideal.τ).loc Cert.Kernel3Ideal.main_v101_4) = v4 c
          ∧ r.2.mem ((c.tc : Thread Cert.Kernel3Ideal.nD Cert.Kernel3Ideal.τ).loc Cert.Kernel3Ideal.main_v101_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v208) = v0 c
          ∧ r.2.mem ((c.tc : Thread Cert.Reference3Ideal.nD Cert.Reference3Ideal.τ).loc Cert.Reference3Ideal.main_v210) = v1 c
          ∧ r.2.mem ((c.tc : Thread Cert.Reference3Ideal.nD Cert.Reference3Ideal.τ).loc Cert.Reference3Ideal.main_v213) = v2 c
          ∧ r.2.mem ((c.tc : Thread Cert.Reference3Ideal.nD Cert.Reference3Ideal.τ).loc Cert.Reference3Ideal.main_v215) = v3 c
          ∧ r.2.mem ((c.tc : Thread Cert.Reference3Ideal.nD Cert.Reference3Ideal.τ).loc Cert.Reference3Ideal.main_v216) = v4 c
          ∧ r.2.mem ((c.tc : Thread Cert.Reference3Ideal.nD Cert.Reference3Ideal.τ).loc Cert.Reference3Ideal.main_v218) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_finite_rotary : Cert.Pre_finite_rotary.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_rotary (hKernel3Ideal := hKernel3Ideal) (hPre_finite_rotary := hPre_finite_rotary)
    ∧ quiescent_Reference3Ideal (hReference3Ideal := hReference3Ideal)
    ∧ quiescent_Reference3Ideal_pre_finite_rotary (hReference3Ideal := hReference3Ideal) (hPre_finite_rotary := hPre_finite_rotary)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_rotary (hKernel3Ideal := hKernel3Ideal) (hReference3Ideal := hReference3Ideal) (hPre_finite_rotary := hPre_finite_rotary)
    ∧ preserves_Kernel4_Kernel4Ideal
    ∧ algebraic_Kernel4Ideal_Reference4Ideal (hKernel4Ideal := hKernel4Ideal) (hReference4Ideal := hReference4Ideal)
-- ==== Pre_finite_rotary.lean ====
abbrev S16384x1024 : Shape := ⟨2, ![16384, 1024]⟩
abbrev S16x6144 : Shape := ⟨2, ![16, 6144]⟩
abbrev S1024 : Shape := ⟨1, ![1024]⟩
abbrev S1024x4000 : Shape := ⟨2, ![1024, 4000]⟩
abbrev S3072 : Shape := ⟨1, ![3072]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S256x8x96 : Shape := ⟨3, ![256, 8, 96]⟩
abbrev S256x8x32 : Shape := ⟨3, ![256, 8, 32]⟩
abbrev S4x2048 : Shape := ⟨2, ![4, 2048]⟩
abbrev S1024x32 : Shape := ⟨2, ![1024, 32]⟩
abbrev S_ : Shape := ⟨0, ![]⟩

class Facts : Prop where
  shapeCasts_S256x768_S256x8x96 : S256x768.ShapeCasts S256x8x96
  slices_S256x8x96_S256x8x32_0_0_64 : S256x8x96.Slices ![0, 0, 64] S256x8x32
  slices_S16x6144_S4x2048_0_0 : S16x6144.Slices ![0, 0] S4x2048
  slices_S1024x4000_S1024x32_0_384 : S1024x4000.Slices ![0, 384] S1024x32
  bcast_S_S4x2048 : S_.BroadcastsInDim S4x2048 (![] : Fin 0 → Fin S4x2048.rank)
  bcast_S_S1024 : S_.BroadcastsInDim S1024 (![] : Fin 0 → Fin S1024.rank)
  bcast_S_S1024x32 : S_.BroadcastsInDim S1024x32 (![] : Fin 0 → Fin S1024x32.rank)
  bcast_S_S256 : S_.BroadcastsInDim S256 (![] : Fin 0 → Fin S256.rank)
  bcast_S_S256x8x32 : S_.BroadcastsInDim S256x8x32 (![] : Fin 0 → Fin S256x8x32.rank)

variable [Facts]

def fn {F : FTy → Type} [FloatOps F] (main_arg0 : FVec F S16384x1024 .f32) (main_arg1 : FVec F S16x6144 .f32) (main_arg2 : FVec F S1024 .f32) (main_arg3 : FVec F S1024x4000 .f32) (main_arg4 : FVec F S3072 .f32) (main_arg5 : FVec F S256 .f32) (main_arg6 : FVec F S256x768 .f32) (main_arg7 : FVec F S128 .f32) (main_arg8 : FVec F S128x1024 .f32) : IVec S4x2048 1 × IVec S1024 1 × IVec S1024x32 1 × IVec S256 1 × IVec S256x8x32 1 :=
  let main_v0 : FVec F S256x8x96 .f32 := shapeCast S256x8x96 main_arg6 shapeCasts_S256x768_S256x8x96
  let main_v1 : FVec F S256x8x32 .f32 := (extractStridedSlice S256x8x32 ![0, 0, 64] · slices_S256x8x96_S256x8x32_0_0_64) main_v0
  let main_v2 : FVec F S4x2048 .f32 := (extractStridedSlice S4x2048 ![0, 0] · slices_S16x6144_S4x2048_0_0) main_arg1
  let main_v3 : FVec F S1024x32 .f32 := (extractStridedSlice S1024x32 ![0, 384] · slices_S1024x4000_S1024x32_0_384) main_arg3
  let main_v4 : FVec F S4x2048 .f32 := Host.absf main_v2
  let main_cst : FVec F S_ .f32 := constant S_ .f32 0x7F800000#32
  let main_v5 : FVec F S4x2048 .f32 := broadcastInDim S4x2048 ![] bcast_S_S4x2048 main_cst
  let main_v6 : IVec S4x2048 1 := cmpf .olt main_v4 main_v5
  let main_v7 : FVec F S1024 .f32 := Host.absf main_arg2
  let main_cst_0 : FVec F S_ .f32 := constant S_ .f32 0x7F800000#32
  let main_v8 : FVec F S1024 .f32 := broadcastInDim S1024 ![] bcast_S_S1024 main_cst_0
  let main_v9 : IVec S1024 1 := cmpf .olt main_v7 main_v8
  let main_v10 : FVec F S1024x32 .f32 := Host.absf main_v3
  let main_cst_1 : FVec F S_ .f32 := constant S_ .f32 0x7F800000#32
  let main_v11 : FVec F S1024x32 .f32 := broadcastInDim S1024x32 ![] bcast_S_S1024x32 main_cst_1
  let main_v12 : IVec S1024x32 1 := cmpf .olt main_v10 main_v11
  let main_v13 : FVec F S256 .f32 := Host.absf main_arg5
  let main_cst_2 : FVec F S_ .f32 := constant S_ .f32 0x7F800000#32
  let main_v14 : FVec F S256 .f32 := broadcastInDim S256 ![] bcast_S_S256 main_cst_2
  let main_v15 : IVec S256 1 := cmpf .olt main_v13 main_v14
  let main_v16 : FVec F S256x8x32 .f32 := Host.absf main_v1
  let main_cst_3 : FVec F S_ .f32 := constant S_ .f32 0x7F800000#32
  let main_v17 : FVec F S256x8x32 .f32 := broadcastInDim S256x8x32 ![] bcast_S_S256x8x32 main_cst_3
  let main_v18 : IVec S256x8x32 1 := cmpf .olt main_v16 main_v17
  (main_v6, main_v9, main_v12, main_v15, main_v18)
-- ==== Pre_finite_scores.lean ====
abbrev S16384x1024 : Shape := ⟨2, ![16384, 1024]⟩
abbrev S16384x512 : Shape := ⟨2, ![16384, 512]⟩
abbrev S1024x1024 : Shape := ⟨2, ![1024, 1024]⟩
abbrev S1024x512 : Shape := ⟨2, ![1024, 512]⟩
abbrev S33792x1024 : Shape := ⟨2, ![33792, 1024]⟩
abbrev S_ : Shape := ⟨0, ![]⟩

class Facts : Prop where
  concatenates_S16384x1024_S16384x1024_S1024x1024_S33792x1024_d0 : Shape.Concatenates [S16384x1024, S16384x1024, S1024x1024] S33792x1024 0
  bitsLt_bf16_f32 : FTy.bits .bf16 < FTy.bits .f32
  bcast_S_S33792x1024 : S_.BroadcastsInDim S33792x1024 (![] : Fin 0 → Fin S33792x1024.rank)

variable [Facts]

def fn {F : FTy → Type} [FloatOps F] (main_arg0 : FVec F S16384x1024 .bf16) (main_arg1 : FVec F S16384x1024 .bf16) (main_arg2 : FVec F S16384x512 .bf16) (main_arg3 : FVec F S1024x1024 .bf16) (main_arg4 : FVec F S1024x512 .bf16) : IVec S33792x1024 1 :=
  let main_v0 : FVec F S33792x1024 .bf16 := concatenate S33792x1024 0 [⟨S16384x1024, main_arg0⟩, ⟨S16384x1024, main_arg1⟩, ⟨S1024x1024, main_arg3⟩] concatenates_S16384x1024_S16384x1024_S1024x1024_S33792x1024_d0
  let main_v1 : FVec F S33792x1024 .f32 := (extf .f32 · bitsLt_bf16_f32) main_v0
  let main_v2 : FVec F S33792x1024 .f32 := Host.absf main_v1
  let main_cst : FVec F S_ .f32 := constant S_ .f32 0x7F800000#32
  let main_v3 : FVec F S33792x1024 .f32 := broadcastInDim S33792x1024 ![] bcast_S_S33792x1024 main_cst
  let main_v4 : IVec S33792x1024 1 := cmpf .olt main_v2 main_v3
  main_v4
-- ==== Kernel.lean ====
abbrev S16384x1024 : Shape := ⟨2, ![16384, 1024]⟩
abbrev S16384x512 : Shape := ⟨2, ![16384, 512]⟩
abbrev S1024x1024 : Shape := ⟨2, ![1024, 1024]⟩
abbrev S1024x512 : Shape := ⟨2, ![1024, 512]⟩
abbrev S256x256 : Shape := ⟨2, ![256, 256]⟩
abbrev S4096x256 : Shape := ⟨2, ![4096, 256]⟩
abbrev S4096x128 : Shape := ⟨2, ![4096, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S1024x1024, .bf16⟩
  | .hbm, ⟨4, _⟩ => ⟨S1024x512, .bf16⟩
  | .hbm, ⟨5, _⟩ => ⟨S16384x512, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S256x256, .bf16⟩
  | .local _ .vmem, ⟨7, _⟩ => ⟨S256x256, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x1024 : Shape := ⟨2, ![16384, 1024]⟩
abbrev S16384x512 : Shape := ⟨2, ![16384, 512]⟩
abbrev S1024x1024 : Shape := ⟨2, ![1024, 1024]⟩
abbrev S1024x512 : Shape := ⟨2, ![1024, 512]⟩
abbrev S4x4096x8x128 : Shape := ⟨4, ![4, 4096, 8, 128]⟩
abbrev S4x4096x8x64 : Shape := ⟨4, ![4, 4096, 8, 64]⟩
abbrev S4x256x8x128 : Shape := ⟨4, ![4, 256, 8, 128]⟩
abbrev S4x256x8x64 : Shape := ⟨4, ![4, 256, 8, 64]⟩
abbrev S4x4352x8x128 : Shape := ⟨4, ![4, 4352, 8, 128]⟩
abbrev S4x4352x8x64 : Shape := ⟨4, ![4, 4352, 8, 64]⟩
abbrev S4x8x4096x4352 : Shape := ⟨4, ![4, 8, 4096, 4352]⟩
abbrev S_ : Shape := ⟨0, ![]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x512, .bf16⟩
  | .hbm, ⟨3, _⟩ => ⟨S1024x1024, .bf16⟩
  | .hbm, ⟨4, _⟩ => ⟨S1024x512, .bf16⟩
  | .hbm, ⟨5, _⟩ => ⟨S16384x1024, .f32⟩
  | .hbm, ⟨6, _⟩ => ⟨S4x4096x8x128, .f32⟩
  | .hbm, ⟨7, _⟩ => ⟨S16384x1024, .f32⟩
  | .hbm, ⟨8, _⟩ => ⟨S4x4096x8x128, .f32⟩
  | .hbm, ⟨9, _⟩ => ⟨S16384x512, .f32⟩
  | .hbm, ⟨10, _⟩ => ⟨S4x4096x8x64, .f32⟩
  | .hbm, ⟨11, _⟩ => ⟨S1024x1024, .f32⟩
  | .hbm, ⟨12, _⟩ => ⟨S4x256x8x128, .f32⟩
  | .hbm, ⟨13, _⟩ => ⟨S1024x512, .f32⟩
  | .hbm, ⟨14, _⟩ => ⟨S4x256x8x64, .f32⟩
  | .hbm, ⟨15, _⟩ => ⟨S4x4352x8x128, .f32⟩
  | .hbm, ⟨16, _⟩ => ⟨S4x4352x8x64, .f32⟩
  | .hbm, ⟨17, _⟩ => ⟨S4x8x4096x4352, .f32⟩
  | .hbm, ⟨18, _⟩ => ⟨S_, .f32⟩
  | .hbm, ⟨19, _⟩ => ⟨S4x8x4096, .f32⟩
  | .hbm, ⟨20, _⟩ => ⟨S_, .f32⟩
  | .hbm, ⟨21, _⟩ => ⟨S4x8x4096, .f32⟩
  | .hbm, ⟨22, _⟩ => ⟨S4x8x4096, .f32⟩
  | .hbm, ⟨23, _⟩ => ⟨S4x8x4096x1, .f32⟩
  | .hbm, ⟨24, _⟩ => ⟨S4x8x4096x4352, .f32⟩
  | .hbm, ⟨25, _⟩ => ⟨S4x8x4096x4352, .f32⟩
  | .hbm, ⟨26, _⟩ => ⟨S4x8x4096x4352, .f32⟩
  | .hbm, ⟨27, _⟩ => ⟨S_, .f32⟩
  | .hbm, ⟨28, _⟩ => ⟨S4x8x4096, .f32⟩
  | .hbm, ⟨29, _⟩ => ⟨S4x8x4096x1, .f32⟩
  | .hbm, ⟨30, _⟩ => ⟨S4x8x4096x4352, .f32⟩
  | .hbm, ⟨31, _⟩ => ⟨S4x8x4096x4352, .f32⟩
  | .hbm, ⟨32, _⟩ => ⟨S4x8x64x4096, .f32⟩
  | .hbm, ⟨33, _⟩ => ⟨S4x4096x8x64, .f32⟩
  | .hbm, ⟨34, _⟩ => ⟨S16384x512, .f32⟩
  | .hbm, ⟨35, _⟩ => ⟨S16384x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S16384x256 : Shape := ⟨2, ![16384, 256]⟩
abbrev S16384x3072 : Shape := ⟨2, ![16384, 3072]⟩
abbrev S16x6144 : Shape := ⟨2, ![16, 6144]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S16x1x6144 : Shape := ⟨3, ![16, 1, 6144]⟩
abbrev S16x16384x128 : Shape := ⟨3, ![16, 16384, 128]⟩
abbrev S256x512 : Shape := ⟨2, ![256, 512]⟩
abbrev S256x256 : Shape := ⟨2, ![256, 256]⟩
abbrev S256x3072 : Shape := ⟨2, ![256, 3072]⟩
abbrev S1x1x6144 : Shape := ⟨3, ![1, 1, 6144]⟩
abbrev S16x256x128 : Shape := ⟨3, ![16, 256, 128]⟩
abbrev S1x6144 : Shape := ⟨2, ![1, 6144]⟩
abbrev S256 : Shape := ⟨1, ![256]⟩
abbrev S256x1 : Shape := ⟨2, ![256, 1]⟩
abbrev S256x2048 : Shape := ⟨2, ![256, 2048]⟩
abbrev S256x128 : Shape := ⟨2, ![256, 128]⟩
abbrev S1x256x128 : Shape := ⟨3, ![1, 256, 128]⟩

abbrev nBuf : Space → Nat
  | .hbm => 22
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S16384x3072, .bf16⟩
  | .hbm, ⟨5, _⟩ => ⟨S16x6144, .f32⟩
  | .hbm, ⟨6, _⟩ => ⟨S512x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S1024, .f32⟩
  | .hbm, ⟨11, _⟩ => ⟨S1024x2048, .f32⟩
  | .hbm, ⟨12, _⟩ => ⟨S1x1024, .f32⟩
  | .hbm, ⟨13, _⟩ => ⟨S512x1024, .bf16⟩
  | .hbm, ⟨14, _⟩ => ⟨S256x1024, .bf16⟩
  | .hbm, ⟨15, _⟩ => ⟨S256x1024, .bf16⟩
  | .hbm, ⟨16, _⟩ => ⟨S1024x1024, .bf16⟩
  | .hbm, ⟨17, _⟩ => ⟨S1024x2048, .bf16⟩
  | .hbm, ⟨18, _⟩ => ⟨S16x1x6144, .f32⟩
  | .hbm, ⟨19, _⟩ => ⟨S16384x1024, .f32⟩
  | .hbm, ⟨20, _⟩ => ⟨S16384x1024, .f32⟩
  | .hbm, ⟨21, _⟩ => ⟨S16x16384x128, .bf16⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x3072, .bf16⟩
  | .local _ .vmem, ⟨9, _⟩ => ⟨S256x3072, .bf16⟩
  | .local _ .vmem, ⟨10, _⟩ => ⟨S1x1x6144, .f32⟩
  | .local _ .vmem, ⟨11, _⟩ => ⟨S1x1x6144, .f32⟩
  | .local _ .vmem, ⟨12, _⟩ => ⟨S512x1024, .bf16⟩
  | .local _ .vmem, ⟨13, _⟩ => ⟨S256x1024, .bf16⟩
  | .local _ .vmem, ⟨14, _⟩ => ⟨S256x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x2048, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S16x256x128, .bf16⟩
  | .local _ .vmem, ⟨23, _⟩ => ⟨S16x256x128, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16384x1024 : Shape := ⟨2, ![16384, 1024]⟩
abbrev S16384x512 : Shape := ⟨2, ![16384, 512]⟩
abbrev S16384x256 : Shape := ⟨2, ![16384, 256]⟩
abbrev S16384x3072 : Shape := ⟨2, ![16384, 3072]⟩
abbrev S16x6144 : Shape := ⟨2, ![16, 6144]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S1024x2048 : Shape := ⟨2, ![1024, 2048]⟩
abbrev S4x4096x1024 : Shape := ⟨3, ![4, 4096, 1024]⟩
abbrev S4x6144 : Shape := ⟨2, ![4, 6144]⟩
abbrev S4x1x6144 : Shape := ⟨3, ![4, 1, 6144]⟩
abbrev S4x1x1024 : Shape := ⟨3, ![4, 1, 1024]⟩
abbrev S4x4096x512 : Shape := ⟨3, ![4, 4096, 512]⟩
abbrev S4x4096x256 : Shape := ⟨3, ![4, 4096, 256]⟩
abbrev S4x4096x3072 : Shape := ⟨3, ![4, 4096, 3072]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2048 : Shape := ⟨3, ![4, 4096, 2048]⟩
abbrev S16384x16x128 : Shape := ⟨3, ![16384, 16, 128]⟩
abbrev S16x16384x128 : Shape := ⟨3, ![16, 16384, 128]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S16384x3072, .bf16⟩
  | .hbm, ⟨5, _⟩ => ⟨S16x6144, .f32⟩
  | .hbm, ⟨6, _⟩ => ⟨S512x1024, .f32⟩
  | .hbm, ⟨7, _⟩ => ⟨S256x1024, .f32⟩
  | .hbm, ⟨8, _⟩ => ⟨S256x1024, .f32⟩
  | .hbm, ⟨9, _⟩ => ⟨S1024x1024, .f32⟩
  | .hbm, ⟨10, _⟩ => ⟨S1024, .f32⟩
  | .hbm, ⟨11, _⟩ => ⟨S1024x2048, .f32⟩
  | .hbm, ⟨12, _⟩ => ⟨S4x4096x1024, .f32⟩
  | .hbm, ⟨13, _⟩ => ⟨S4x6144, .f32⟩
  | .hbm, ⟨14, _⟩ => ⟨S4x1x6144, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S16384x512, .f32⟩
  | .hbm, ⟨22, _⟩ => ⟨S4x4096x512, .f32⟩
  | .hbm, ⟨23, _⟩ => ⟨S4x4096x1024, .f32⟩
  | .hbm, ⟨24, _⟩ => ⟨S16384x256, .f32⟩
  | .hbm, ⟨25, _⟩ => ⟨S4x4096x256, .f32⟩
  | .hbm, ⟨26, _⟩ => ⟨S4x4096x1024, .f32⟩
  | .hbm, ⟨27, _⟩ => ⟨S16384x256, .f32⟩
  | .hbm, ⟨28, _⟩ => ⟨S4x4096x256, .f32⟩
  | .hbm, ⟨29, _⟩ => ⟨S4x4096x1024, .f32⟩
  | .hbm, ⟨30, _⟩ => ⟨S16384x3072, .f32⟩
  | .hbm, ⟨31, _⟩ => ⟨S4x4096x3072, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S4x4096x1, .f32⟩
  | .hbm, ⟨55, _⟩ => ⟨S4x4096x1024, .f32⟩
  | .hbm, ⟨56, _⟩ => ⟨S4x4096x1024, .f32⟩
  | .hbm, ⟨57, _⟩ => ⟨S1x1x1024, .f32⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x1x1024, .f32⟩
  | .hbm, ⟨62, _⟩ => ⟨S4x1x1024, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S4x4096x2048, .f32⟩
  | .hbm, ⟨68, _⟩ => ⟨S16384x16x128, .f32⟩
  | .hbm, ⟨69, _⟩ => ⟨S16384x1024, .f32⟩
  | .hbm, ⟨70, _⟩ => ⟨S16384x1024, .f32⟩
  | .hbm, ⟨71, _⟩ => ⟨S16x16384x128, .f32⟩
  | .hbm, ⟨72, _⟩ => ⟨S16x16384x128, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst : Ref sig .tc := ⟨.hbm, 45, rfl⟩
abbrev main_v33 : Ref sig .tc := ⟨.hbm, 46, rfl⟩
abbrev main_v34 : Ref sig .tc := ⟨.hbm, 47, rfl⟩
abbrev main_cst_0 : Ref sig .tc := ⟨.hbm, 48, rfl⟩
abbrev main_v35 : Ref sig .tc := ⟨.hbm, 49, rfl⟩
abbrev main_v36 : Ref sig .tc := ⟨.hbm, 50, rfl⟩
abbrev main_cst_1 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_2 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩

abbrev nD : Nat := 1
abbrev τ : Topo := Topo.v7x

variable {F : FTy → Type} [FloatOps F]
-- ==== Kernel3.lean ====
abbrev S16384x1024 : Shape := ⟨2, ![16384, 1024]⟩
abbrev S16x6144 : Shape := ⟨2, ![16, 6144]⟩
abbrev S1024 : Shape := ⟨1, ![1024]⟩
abbrev S1024x4000 : Shape := ⟨2, ![1024, 4000]⟩
abbrev S3072 : Shape := ⟨1, ![3072]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S1024x32 : Shape := ⟨2, ![1024, 32]⟩
abbrev S_ : Shape := ⟨0, ![]⟩
abbrev S1024x64 : Shape := ⟨2, ![1024, 64]⟩
abbrev S1024x384 : Shape := ⟨2, ![1024, 384]⟩
abbrev S1024x3584 : Shape := ⟨2, ![1024, 3584]⟩
abbrev S1024x8 : Shape := ⟨2, ![1024, 8]⟩
abbrev S1024x4224 : Shape := ⟨2, ![1024, 4224]⟩
abbrev S256x8x96 : Shape := ⟨3, ![256, 8, 96]⟩
abbrev S256x8x32 : Shape := ⟨3, ![256, 8, 32]⟩
abbrev S256x8x128 : Shape := ⟨3, ![256, 8, 128]⟩
abbrev S256x1024 : Shape := ⟨2, ![256, 1024]⟩
abbrev S256x8x64 : Shape := ⟨3, ![256, 8, 64]⟩
abbrev S256x8x8 : Shape := ⟨3, ![256, 8, 8]⟩
abbrev S128x8x128 : Shape := ⟨3, ![128, 8, 128]⟩
abbrev S128x8x64 : Shape := ⟨3, ![128, 8, 64]⟩
abbrev S128x512 : Shape := ⟨2, ![128, 512]⟩
abbrev S256x1 : Shape := ⟨2, ![256, 1]⟩
abbrev S1x256 : Shape := ⟨2, ![1, 256]⟩
abbrev S256x256 : Shape := ⟨2, ![256, 256]⟩
abbrev S256x512 : Shape := ⟨2, ![256, 512]⟩
abbrev S1x1024 : Shape := ⟨2, ![1, 1024]⟩
abbrev S1x128 : Shape := ⟨2, ![1, 128]⟩
abbrev S1x3072 : Shape := ⟨2, ![1, 3072]⟩
abbrev S16x1x6144 : Shape := ⟨3, ![16, 1, 6144]⟩
abbrev S4096x64 : Shape := ⟨2, ![4096, 64]⟩
abbrev S4096x32 : Shape := ⟨2, ![4096, 32]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x128 : Shape := ⟨2, ![4096, 128]⟩
abbrev S16384x512 : Shape := ⟨2, ![16384, 512]⟩
abbrev S16384x256 : Shape := ⟨2, ![16384, 256]⟩
abbrev S16384x3072 : Shape := ⟨2, ![16384, 3072]⟩
abbrev S1x1x6144 : Shape := ⟨3, ![1, 1, 6144]⟩
abbrev S256x128 : Shape := ⟨2, ![256, 128]⟩
abbrev S256x3072 : Shape := ⟨2, ![256, 3072]⟩
abbrev S1x6144 : Shape := ⟨2, ![1, 6144]⟩
abbrev S256x4224 : Shape := ⟨2, ![256, 4224]⟩

abbrev nBuf : Space → Nat
  | .hbm => 190
  | .vmem => 34
  | .smem => 0
  | _ => 0

abbrev hbmTy0_0 (i : Nat) : BufTy := match i % 128 with
  | 0 => ⟨S16384x1024, .f32⟩
  | 1 => ⟨S16x6144, .f32⟩
  | 2 => ⟨S1024, .f32⟩
  | 3 => ⟨S1024x4000, .f32⟩
  | 4 => ⟨S3072, .f32⟩
  | 5 => ⟨S256, .f32⟩
  | 6 => ⟨S256x768, .f32⟩
  | 7 => ⟨S128, .f32⟩
  | 8 => ⟨S128x1024, .f32⟩
  | 9 => ⟨S1024x32, .f32⟩
  | 10 => ⟨S_, .f32⟩
  | 11 => ⟨S1024x64, .f32⟩
  | 12 => ⟨S_, .f32⟩
  | 13 => ⟨S1024x32, .f32⟩
  | 14 => ⟨S1024x384, .f32⟩
  | 15 => ⟨S1024x3584, .f32⟩
  | 16 => ⟨S1024x8, .f32⟩
  | 17 => ⟨S1024x8, .f32⟩
  | 18 => ⟨S1024x8, .f32⟩
  | 19 => ⟨S1024x8, .f32⟩
  | 20 => ⟨S1024x8, .f32⟩
  | 21 => ⟨S1024x8, .f32⟩
  | 22 => ⟨S1024x32, .f32⟩
  | 23 => ⟨S1024x4224, .f32⟩
  | 24 => ⟨S1024x4224, .bf16⟩
  | 25 => ⟨S256x8x96, .f32⟩
  | 26 => ⟨S_, .f32⟩
  | 27 => ⟨S256x8x32, .f32⟩
  | 28 => ⟨S256x8x128, .f32⟩
  | 29 => ⟨S256x1024, .f32⟩
  | 30 => ⟨S_, .f32⟩
  | 31 => ⟨S256x8x64, .f32⟩
  | 32 => ⟨S256x8x32, .f32⟩
  | 33 => ⟨S256x8x8, .f32⟩
  | 34 => ⟨S256x8x8, .f32⟩
  | 35 => ⟨S256x8x8, .f32⟩
  | 36 => ⟨S256x8x8, .f32⟩
  | 37 => ⟨S256x8x8, .f32⟩
  | 38 => ⟨S256x8x8, .f32⟩
  | 39 => ⟨S256x8x32, .f32⟩
  | 40 => ⟨S256x8x128, .f32⟩
  | 41 => ⟨S256x1024, .f32⟩
  | 42 => ⟨S128x8x128, .f32⟩
  | 43 => ⟨S128x8x64, .f32⟩
  | 44 => ⟨S_, .f32⟩
  | 45 => ⟨S128x8x64, .f32⟩
  | 46 => ⟨S128x8x128, .f32⟩
  | 47 => ⟨S128x1024, .f32⟩
  | 48 => ⟨S128x8x64, .f32⟩
  | 49 => ⟨S128x512, .f32⟩
  | 50 => ⟨S256, .i32⟩
  | 51 => ⟨S256x1, .i32⟩
  | 52 => ⟨S1x256, .i32⟩
  | 53 => ⟨S256x256, .i32⟩
  | 54 => ⟨S256x256, .i32⟩
  | 55 => ⟨S256x256, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S256x256, .i32⟩
  | 63 => ⟨S256x256, .i32⟩
  | 64 => ⟨S_, .i32⟩
  | 65 => ⟨S256x256, .i32⟩
  | 66 => ⟨S256x256, .i1⟩
  | 67 => ⟨S_, .i32⟩
  | 68 => ⟨S256x256, .i32⟩
  | 69 => ⟨S256x256, .i1⟩
  | 70 => ⟨S_, .i32⟩
  | 71 => ⟨S_, .i1⟩
  | 72 => ⟨S256x256, .i1⟩
  | 73 => ⟨S256x256, .i1⟩
  | 74 => ⟨S256x256, .i1⟩
  | 75 => ⟨S256x256, .i32⟩
  | 76 => ⟨S256x256, .i32⟩
  | 77 => ⟨S256x256, .i32⟩
  | 78 => ⟨S256x256, .f32⟩
  | 79 => ⟨S_, .f32⟩
  | 80 => ⟨S256x256, .f32⟩
  | 81 => ⟨S256x256, .f32⟩
  | 82 => ⟨S256x256, .f32⟩
  | 83 => ⟨S256x256, .f32⟩
  | 84 => ⟨S256x512, .f32⟩
  | 85 => ⟨S256x512, .bf16⟩
  | 86 => ⟨S1x1024, .f32⟩
  | 87 => ⟨S1x256, .f32⟩
  | 88 => ⟨S1x128, .f32⟩
  | 89 => ⟨S256x1024, .bf16⟩
  | 90 => ⟨S256x1024, .bf16⟩
  | 91 => ⟨S128x1024, .bf16⟩
  | 92 => ⟨S128x512, .bf16⟩
  | 93 => ⟨S1x3072, .f32⟩
  | 94 => ⟨S16x1x6144, .f32⟩
  | 95 => ⟨S_, .f32⟩
  | 96 => ⟨S4096x64, .f32⟩
  | 97 => ⟨S_, .f32⟩
  | 98 => ⟨S4096x32, .f32⟩
  | 99 => ⟨S_, .f32⟩
  | 100 => ⟨S4096x64, .f32⟩
  | 101 => ⟨S4096, .i32⟩
  | 102 => ⟨S8, .f32⟩
  | 103 => ⟨S_, .f32⟩
  | 104 => ⟨S8, .f32⟩
  | 105 => ⟨S8, .f32⟩
  | 106 => ⟨S_, .f32⟩
  | 107 => ⟨S8, .f32⟩
  | 108 => ⟨S8, .f32⟩
  | 109 => ⟨S8, .f32⟩
  | 110 => ⟨S_, .f32⟩
  | 111 => ⟨S8, .f32⟩
  | 112 => ⟨S8, .f32⟩
  | 113 => ⟨S_, .f32⟩
  | 114 => ⟨S8, .f32⟩
  | 115 => ⟨S8, .f32⟩
  | 116 => ⟨S_, .i32⟩
  | 117 => ⟨S_, .i32⟩
  | 118 => ⟨S4096, .i32⟩
  | 119 => ⟨S4096, .i32⟩
  | 120 => ⟨S4096, .i32⟩
  | 121 => ⟨S_, .i32⟩
  | 122 => ⟨S4096, .i32⟩
  | 123 => ⟨S4096, .i1⟩
  | 124 => ⟨S4096, .i32⟩
  | 125 => ⟨S4096, .i32⟩
  | 126 => ⟨S_, .i32⟩
  | 127 => ⟨S4096, .i32⟩
  | _ => ⟨S16384x1024, .f32⟩

abbrev hbmTy0_1 (i : Nat) : BufTy := match i % 128 with
  | 0 => ⟨S4096, .i1⟩
  | 1 => ⟨S4096, .i1⟩
  | 2 => ⟨S_, .i32⟩
  | 3 => ⟨S4096, .i32⟩
  | 4 => ⟨S4096, .i32⟩
  | 5 => ⟨S4096, .i32⟩
  | 6 => ⟨S4096, .f32⟩
  | 7 => ⟨S4096x1, .f32⟩
  | 8 => ⟨S1x8, .f32⟩
  | 9 => ⟨S4096x8, .f32⟩
  | 10 => ⟨S4096x8, .f32⟩
  | 11 => ⟨S4096x8, .f32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S4096, .i32⟩
  | 19 => ⟨S4096, .i32⟩
  | 20 => ⟨S_, .i32⟩
  | 21 => ⟨S4096, .i32⟩
  | 22 => ⟨S4096, .i1⟩
  | 23 => ⟨S_, .i32⟩
  | 24 => ⟨S4096, .i32⟩
  | 25 => ⟨S4096, .i1⟩
  | 26 => ⟨S_, .i32⟩
  | 27 => ⟨S_, .i1⟩
  | 28 => ⟨S4096, .i1⟩
  | 29 => ⟨S4096, .i1⟩
  | 30 => ⟨S4096, .i1⟩
  | 31 => ⟨S4096, .i32⟩
  | 32 => ⟨S4096, .i32⟩
  | 33 => ⟨S4096, .i32⟩
  | 34 => ⟨S4096, .f32⟩
  | 35 => ⟨S4096x1, .f32⟩
  | 36 => ⟨S1x8, .f32⟩
  | 37 => ⟨S4096x8, .f32⟩
  | 38 => ⟨S4096x8, .f32⟩
  | 39 => ⟨S4096x8, .f32⟩
  | 40 => ⟨S4096x8, .f32⟩
  | 41 => ⟨S4096x8, .f32⟩
  | 42 => ⟨S4096x32, .f32⟩
  | 43 => ⟨S4096x8, .f32⟩
  | 44 => ⟨S4096x8, .f32⟩
  | 45 => ⟨S4096x32, .f32⟩
  | 46 => ⟨S4096x128, .f32⟩
  | 47 => ⟨S_, .f32⟩
  | 48 => ⟨S4096x128, .f32⟩
  | 49 => ⟨S4096x128, .f32⟩
  | 50 => ⟨S4096x128, .f32⟩
  | 51 => ⟨S_, .f32⟩
  | 52 => ⟨S4096x128, .f32⟩
  | 53 => ⟨S4096x128, .f32⟩
  | 54 => ⟨S4096x128, .f32⟩
  | 55 => ⟨S4096x128, .f32⟩
  | 56 => ⟨S16384x1024, .bf16⟩
  | 57 => ⟨S16384x512, .bf16⟩
  | 58 => ⟨S16384x1024, .bf16⟩
  | 59 => ⟨S16384x512, .bf16⟩
  | 60 => ⟨S16384x256, .f32⟩
  | 61 => ⟨S16384x3072, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x4224, .bf16⟩
  | .local _ .vmem, ⟨6, _⟩ => ⟨S1x256, .f32⟩
  | .local _ .vmem, ⟨7, _⟩ => ⟨S256x1024, .bf16⟩
  | .local _ .vmem, ⟨8, _⟩ => ⟨S256x1024, .bf16⟩
  | .local _ .vmem, ⟨9, _⟩ => ⟨S1x128, .f32⟩
  | .local _ .vmem, ⟨10, _⟩ => ⟨S128x1024, .bf16⟩
  | .local _ .vmem, ⟨11, _⟩ => ⟨S128x512, .bf16⟩
  | .local _ .vmem, ⟨12, _⟩ => ⟨S256x512, .bf16⟩
  | .local _ .vmem, ⟨13, _⟩ => ⟨S1x3072, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x1024, .bf16⟩
  | .local _ .vmem, ⟨23, _⟩ => ⟨S256x1024, .bf16⟩
  | .local _ .vmem, ⟨24, _⟩ => ⟨S256x512, .bf16⟩
  | .local _ .vmem, ⟨25, _⟩ => ⟨S256x512, .bf16⟩
  | .local _ .vmem, ⟨26, _⟩ => ⟨S256x1024, .bf16⟩
  | .local _ .vmem, ⟨27, _⟩ => ⟨S256x1024, .bf16⟩
  | .local _ .vmem, ⟨28, _⟩ => ⟨S256x512, .bf16⟩
  | .local _ .vmem, ⟨29, _⟩ => ⟨S256x512, .bf16⟩
  | .local _ .vmem, ⟨30, _⟩ => ⟨S256x256, .f32⟩
  | .local _ .vmem, ⟨31, _⟩ => ⟨S256x256, .f32⟩
  | .local _ .vmem, ⟨32, _⟩ => ⟨S256x3072, .bf16⟩
  | .local _ .vmem, ⟨33, _⟩ => ⟨S256x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c : Ref sig .tc := ⟨.hbm, 56, rfl⟩
abbrev main_call0_v0 : Ref sig .tc := ⟨.hbm, 57, rfl⟩
abbrev main_call0_c : Ref sig .tc := ⟨.hbm, 58, rfl⟩
abbrev main_call0_v1 : Ref sig .tc := ⟨.hbm, 59, rfl⟩
abbrev main_call0_c_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_c_1 : Ref sig .tc := ⟨.hbm, 64, rfl⟩
abbrev main_call0_v5 : Ref sig .tc := ⟨.hbm, 65, rfl⟩
abbrev main_call0_v6 : Ref sig .tc := ⟨.hbm, 66, rfl⟩
abbrev main_call0_c_2 : Ref sig .tc := ⟨.hbm, 67, rfl⟩
abbrev main_call0_v7 : Ref sig .tc := ⟨.hbm, 68, rfl⟩
abbrev main_call0_v8 : Ref sig .tc := ⟨.hbm, 69, rfl⟩
abbrev main_call0_c_3 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_v12 : Ref sig .tc := ⟨.hbm, 74, rfl⟩
abbrev main_call0_v13 : Ref sig .tc := ⟨.hbm, 75, rfl⟩
abbrev main_call0_v14 : Ref sig .tc := ⟨.hbm, 76, rfl⟩
abbrev main_v42 : Ref sig .tc := ⟨.hbm, 77, rfl⟩
abbrev main_v43 : Ref sig .tc := ⟨.hbm, 78, rfl⟩
abbrev main_cst_4 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_5 : Ref sig .tc := ⟨.hbm, 95, rfl⟩
abbrev main_v59 : Ref sig .tc := ⟨.hbm, 96, rfl⟩
abbrev main_cst_6 : Ref sig .tc := ⟨.hbm, 97, rfl⟩
abbrev main_v60 : Ref sig .tc := ⟨.hbm, 98, rfl⟩
abbrev main_cst_7 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_8 : Ref sig .tc := ⟨.hbm, 103, rfl⟩
abbrev main_v64 : Ref sig .tc := ⟨.hbm, 104, rfl⟩
abbrev main_v65 : Ref sig .tc := ⟨.hbm, 105, rfl⟩
abbrev main_cst_9 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_10 : Ref sig .tc := ⟨.hbm, 110, rfl⟩
abbrev main_v69 : Ref sig .tc := ⟨.hbm, 111, rfl⟩
abbrev main_v70 : Ref sig .tc := ⟨.hbm, 112, rfl⟩
abbrev main_cst_11 : Ref sig .tc := ⟨.hbm, 113, rfl⟩
abbrev main_v71 : Ref sig .tc := ⟨.hbm, 114, rfl⟩
abbrev main_v72 : Ref sig .tc := ⟨.hbm, 115, rfl⟩
abbrev main_c_12 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_v7 : Ref sig .tc := ⟨.hbm, 124, rfl⟩
abbrev main_call1_v8 : Ref sig .tc := ⟨.hbm, 125, rfl⟩
abbrev main_call1_c : Ref sig .tc := ⟨.hbm, 126, rfl⟩
abbrev main_call1_v9 : Ref sig .tc := ⟨.hbm, 127, rfl⟩
abbrev main_call1_v10 : Ref sig .tc := ⟨.hbm, 128, rfl⟩
abbrev main_call1_v11 : Ref sig .tc := ⟨.hbm, 129, rfl⟩
abbrev main_call1_c_0 : Ref sig .tc := ⟨.hbm, 130, rfl⟩
abbrev main_call1_v12 : Ref sig .tc := ⟨.hbm, 131, rfl⟩
abbrev main_call1_v13 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_c_13 : Ref sig .tc := ⟨.hbm, 140, rfl⟩
abbrev main_call2_v0 : Ref sig .tc := ⟨.hbm, 141, rfl⟩
abbrev main_call2_c : Ref sig .tc := ⟨.hbm, 142, rfl⟩
abbrev main_call2_v1 : Ref sig .tc := ⟨.hbm, 143, rfl⟩
abbrev main_call2_c_0 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_c_1 : Ref sig .tc := ⟨.hbm, 148, rfl⟩
abbrev main_call2_v5 : Ref sig .tc := ⟨.hbm, 149, rfl⟩
abbrev main_call2_v6 : Ref sig .tc := ⟨.hbm, 150, rfl⟩
abbrev main_call2_c_2 : Ref sig .tc := ⟨.hbm, 151, rfl⟩
abbrev main_call2_v7 : Ref sig .tc := ⟨.hbm, 152, rfl⟩
abbrev main_call2_v8 : Ref sig .tc := ⟨.hbm, 153, rfl⟩
abbrev main_call2_c_3 : Ref sig .tc := ⟨.hbm, 154, rfl⟩
abbrev main_call2_v9 : Ref sig .tc := ⟨.hbm, 155, rfl⟩
abbrev main_call2_v10 : Ref sig .tc := ⟨.hbm, 156, rfl⟩
abbrev main_call2_v11 : Ref sig .tc := ⟨.hbm, 157, rfl⟩
abbrev main_call2_v12 : Ref sig .tc := ⟨.hbm, 158, rfl⟩
abbrev main_call2_v13 : Ref sig .tc := ⟨.hbm, 159, rfl⟩
abbrev main_call2_v14 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_cst_14 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_cst_15 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101_0 : Ref sig .tc := ⟨.hbm, 184, rfl⟩
abbrev main_v101_1 : Ref sig .tc := ⟨.hbm, 185, rfl⟩
abbrev main_v101_2 : Ref sig .tc := ⟨.hbm, 186, rfl⟩
abbrev main_v101_3 : Ref sig .tc := ⟨.hbm, 187, rfl⟩
abbrev main_v101_4 : Ref sig .tc := ⟨.hbm, 188, rfl⟩
abbrev main_v101_5 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_15 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x3072 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S16384x1024 : Shape := ⟨2, ![16384, 1024]⟩
abbrev S16x6144 : Shape := ⟨2, ![16, 6144]⟩
abbrev S1024 : Shape := ⟨1, ![1024]⟩
abbrev S1024x4000 : Shape := ⟨2, ![1024, 4000]⟩
abbrev S3072 : Shape := ⟨1, ![3072]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S4x6144 : Shape := ⟨2, ![4, 6144]⟩
abbrev S4x1x6144 : Shape := ⟨3, ![4, 1, 6144]⟩
abbrev S4x1x1024 : Shape := ⟨3, ![4, 1, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S64 : Shape := ⟨1, ![64]⟩
abbrev S64x64 : Shape := ⟨2, ![64, 64]⟩
abbrev S8 : Shape := ⟨1, ![8]⟩
abbrev S4096x1x1 : Shape := ⟨3, ![4096, 1, 1]⟩
abbrev S1x1x8 : Shape := ⟨3, ![1, 1, 8]⟩
abbrev S4096x1x8 : Shape := ⟨3, ![4096, 1, 8]⟩
abbrev S4x4096x4000 : Shape := ⟨3, ![4, 4096, 4000]⟩
abbrev S4x4096x256 : Shape := ⟨3, ![4, 4096, 256]⟩
abbrev S4x4096x128 : Shape := ⟨3, ![4, 4096, 128]⟩
abbrev S4x4096x32 : Shape := ⟨3, ![4, 4096, 32]⟩
abbrev S4x4096x3072 : Shape := ⟨3, ![4, 4096, 3072]⟩
abbrev S1x1x256 : Shape := ⟨3, ![1, 1, 256]⟩
abbrev S4x4096x768 : Shape := ⟨3, ![4, 4096, 768]⟩
abbrev S4x4096x8x96 : Shape := ⟨4, ![4, 4096, 8, 96]⟩
abbrev S4x4096x8x64 : Shape := ⟨4, ![4, 4096, 8, 64]⟩
abbrev S4x4096x8x32 : Shape := ⟨4, ![4, 4096, 8, 32]⟩
abbrev S4x4096x8x16 : Shape := ⟨4, ![4, 4096, 8, 16]⟩
abbrev S4x4096x8x8 : Shape := ⟨4, ![4, 4096, 8, 8]⟩
abbrev S1x4096x1x8 : Shape := ⟨4, ![1, 4096, 1, 8]⟩
abbrev S1x1x128 : Shape := ⟨3, ![1, 1, 128]⟩
abbrev S4x4096x8x128 : Shape := ⟨4, ![4, 4096, 8, 128]⟩
abbrev S4x4096x1x32 : Shape := ⟨4, ![4, 4096, 1, 32]⟩
abbrev S4x4096x1x16 : Shape := ⟨4, ![4, 4096, 1, 16]⟩
abbrev S4x4096x1x8 : Shape := ⟨4, ![4, 4096, 1, 8]⟩
abbrev S1x1x3072 : Shape := ⟨3, ![1, 1, 3072]⟩
abbrev S256x1 : Shape := ⟨2, ![256, 1]⟩
abbrev S1x256 : Shape := ⟨2, ![1, 256]⟩
abbrev S256x256 : Shape := ⟨2, ![256, 256]⟩
abbrev S4x4096x512 : Shape := ⟨3, ![4, 4096, 512]⟩
abbrev S16384x512 : Shape := ⟨2, ![16384, 512]⟩
abbrev S16384x256 : Shape := ⟨2, ![16384, 256]⟩
abbrev S16384x3072 : Shape := ⟨2, ![16384, 3072]⟩

abbrev nBuf : Space → Nat
  | .hbm => 268
  | .vmem => 0
  | .smem => 0
  | _ => 0

abbrev hbmTy0_0 (i : Nat) : BufTy := match i % 128 with
  | 0 => ⟨S16384x1024, .f32⟩
  | 1 => ⟨S16x6144, .f32⟩
  | 2 => ⟨S1024, .f32⟩
  | 3 => ⟨S1024x4000, .f32⟩
  | 4 => ⟨S3072, .f32⟩
  | 5 => ⟨S256, .f32⟩
  | 6 => ⟨S256x768, .f32⟩
  | 7 => ⟨S128, .f32⟩
  | 8 => ⟨S128x1024, .f32⟩
  | 9 => ⟨S4x6144, .f32⟩
  | 10 => ⟨S4x1x6144, .f32⟩
  | 11 => ⟨S4x1x1024, .f32⟩
  | 12 => ⟨S4x1x1024, .f32⟩
  | 13 => ⟨S4x1x1024, .f32⟩
  | 14 => ⟨S4x1x1024, .f32⟩
  | 15 => ⟨S4x1x1024, .f32⟩
  | 16 => ⟨S4x1x1024, .f32⟩
  | 17 => ⟨S4x4096x1024, .f32⟩
  | 18 => ⟨S4x4096x1024, .f32⟩
  | 19 => ⟨S_, .f32⟩
  | 20 => ⟨S4x4096, .f32⟩
  | 21 => ⟨S4x4096x1, .f32⟩
  | 22 => ⟨S_, .f32⟩
  | 23 => ⟨S4x4096x1, .f32⟩
  | 24 => ⟨S4x4096x1, .f32⟩
  | 25 => ⟨S_, .f32⟩
  | 26 => ⟨S4x4096x1, .f32⟩
  | 27 => ⟨S4x4096x1, .f32⟩
  | 28 => ⟨S4x4096x1, .f32⟩
  | 29 => ⟨S4x4096x1024, .f32⟩
  | 30 => ⟨S4x4096x1024, .f32⟩
  | 31 => ⟨S1x1x1024, .f32⟩
  | 32 => ⟨S4x4096x1024, .f32⟩
  | 33 => ⟨S4x4096x1024, .f32⟩
  | 34 => ⟨S_, .f32⟩
  | 35 => ⟨S4x1x1024, .f32⟩
  | 36 => ⟨S4x1x1024, .f32⟩
  | 37 => ⟨S4x4096x1024, .f32⟩
  | 38 => ⟨S4x4096x1024, .f32⟩
  | 39 => ⟨S4x4096x1024, .f32⟩
  | 40 => ⟨S4x4096x1024, .f32⟩
  | 41 => ⟨S64, .f32⟩
  | 42 => ⟨S64, .f32⟩
  | 43 => ⟨S64x64, .f32⟩
  | 44 => ⟨S64x64, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S4096x1x1, .f32⟩
  | 60 => ⟨S1x1x8, .f32⟩
  | 61 => ⟨S4096x1x8, .f32⟩
  | 62 => ⟨S4096x1x8, .f32⟩
  | 63 => ⟨S4096x1x8, .f32⟩
  | 64 => ⟨S4096x1x1, .f32⟩
  | 65 => ⟨S1x1x8, .f32⟩
  | 66 => ⟨S4096x1x8, .f32⟩
  | 67 => ⟨S4096x1x8, .f32⟩
  | 68 => ⟨S4096x1x8, .f32⟩
  | 69 => ⟨S4x4096x4000, .f32⟩
  | 70 => ⟨S4x4096x256, .f32⟩
  | 71 => ⟨S4x4096x128, .f32⟩
  | 72 => ⟨S4x4096x32, .f32⟩
  | 73 => ⟨S4x4096x256, .f32⟩
  | 74 => ⟨S4x4096x256, .f32⟩
  | 75 => ⟨S4x4096x3072, .f32⟩
  | 76 => ⟨S4x4096x256, .f32⟩
  | 77 => ⟨S_, .f32⟩
  | 78 => ⟨S4x4096, .f32⟩
  | 79 => ⟨S4x4096x1, .f32⟩
  | 80 => ⟨S_, .f32⟩
  | 81 => ⟨S4x4096x1, .f32⟩
  | 82 => ⟨S4x4096x1, .f32⟩
  | 83 => ⟨S_, .f32⟩
  | 84 => ⟨S4x4096x1, .f32⟩
  | 85 => ⟨S4x4096x1, .f32⟩
  | 86 => ⟨S4x4096x1, .f32⟩
  | 87 => ⟨S4x4096x256, .f32⟩
  | 88 => ⟨S4x4096x256, .f32⟩
  | 89 => ⟨S1x1x256, .f32⟩
  | 90 => ⟨S4x4096x256, .f32⟩
  | 91 => ⟨S4x4096x256, .f32⟩
  | 92 => ⟨S4x4096x768, .f32⟩
  | 93 => ⟨S4x4096x8x96, .f32⟩
  | 94 => ⟨S4x4096x8x64, .f32⟩
  | 95 => ⟨S4x4096x8x32, .f32⟩
  | 96 => ⟨S4x4096x8x16, .f32⟩
  | 97 => ⟨S4x4096x8x16, .f32⟩
  | 98 => ⟨S4x4096x8x8, .f32⟩
  | 99 => ⟨S4x4096x8x8, .f32⟩
  | 100 => ⟨S4096x1x8, .f32⟩
  | 101 => ⟨S4096x1x8, .f32⟩
  | 102 => ⟨S1x4096x1x8, .f32⟩
  | 103 => ⟨S4x4096x8x8, .f32⟩
  | 104 => ⟨S4x4096x8x8, .f32⟩
  | 105 => ⟨S1x4096x1x8, .f32⟩
  | 106 => ⟨S4x4096x8x8, .f32⟩
  | 107 => ⟨S4x4096x8x8, .f32⟩
  | 108 => ⟨S4x4096x8x8, .f32⟩
  | 109 => ⟨S1x4096x1x8, .f32⟩
  | 110 => ⟨S4x4096x8x8, .f32⟩
  | 111 => ⟨S4x4096x8x8, .f32⟩
  | 112 => ⟨S1x4096x1x8, .f32⟩
  | 113 => ⟨S4x4096x8x8, .f32⟩
  | 114 => ⟨S4x4096x8x8, .f32⟩
  | 115 => ⟨S4x4096x8x8, .f32⟩
  | 116 => ⟨S4x4096x8x16, .f32⟩
  | 117 => ⟨S4x4096x8x8, .f32⟩
  | 118 => ⟨S4x4096x8x8, .f32⟩
  | 119 => ⟨S4096x1x8, .f32⟩
  | 120 => ⟨S4096x1x8, .f32⟩
  | 121 => ⟨S1x4096x1x8, .f32⟩
  | 122 => ⟨S4x4096x8x8, .f32⟩
  | 123 => ⟨S4x4096x8x8, .f32⟩
  | 124 => ⟨S1x4096x1x8, .f32⟩
  | 125 => ⟨S4x4096x8x8, .f32⟩
  | 126 => ⟨S4x4096x8x8, .f32⟩
  | 127 => ⟨S4x4096x8x8, .f32⟩
  | _ => ⟨S16384x1024, .f32⟩

abbrev hbmTy0_1 (i : Nat) : BufTy := match i % 128 with
  | 0 => ⟨S1x4096x1x8, .f32⟩
  | 1 => ⟨S4x4096x8x8, .f32⟩
  | 2 => ⟨S4x4096x8x8, .f32⟩
  | 3 => ⟨S1x4096x1x8, .f32⟩
  | 4 => ⟨S4x4096x8x8, .f32⟩
  | 5 => ⟨S4x4096x8x8, .f32⟩
  | 6 => ⟨S4x4096x8x8, .f32⟩
  | 7 => ⟨S4x4096x8x16, .f32⟩
  | 8 => ⟨S4x4096x8x32, .f32⟩
  | 9 => ⟨S4x4096x8x96, .f32⟩
  | 10 => ⟨S_, .f32⟩
  | 11 => ⟨S4x4096x8x96, .f32⟩
  | 12 => ⟨S4x4096x8x96, .f32⟩
  | 13 => ⟨S4x4096x128, .f32⟩
  | 14 => ⟨S_, .f32⟩
  | 15 => ⟨S4x4096, .f32⟩
  | 16 => ⟨S4x4096x1, .f32⟩
  | 17 => ⟨S_, .f32⟩
  | 18 => ⟨S4x4096x1, .f32⟩
  | 19 => ⟨S4x4096x1, .f32⟩
  | 20 => ⟨S_, .f32⟩
  | 21 => ⟨S4x4096x1, .f32⟩
  | 22 => ⟨S4x4096x1, .f32⟩
  | 23 => ⟨S4x4096x1, .f32⟩
  | 24 => ⟨S4x4096x128, .f32⟩
  | 25 => ⟨S4x4096x128, .f32⟩
  | 26 => ⟨S1x1x128, .f32⟩
  | 27 => ⟨S4x4096x128, .f32⟩
  | 28 => ⟨S4x4096x128, .f32⟩
  | 29 => ⟨S4x4096x1024, .f32⟩
  | 30 => ⟨S4x4096x8x128, .f32⟩
  | 31 => ⟨S4x4096x8x64, .f32⟩
  | 32 => ⟨S4x4096x8x64, .f32⟩
  | 33 => ⟨S4x4096x1x32, .f32⟩
  | 34 => ⟨S4x4096x1x16, .f32⟩
  | 35 => ⟨S4x4096x1x16, .f32⟩
  | 36 => ⟨S4x4096x1x8, .f32⟩
  | 37 => ⟨S4x4096x1x8, .f32⟩
  | 38 => ⟨S4096x1x8, .f32⟩
  | 39 => ⟨S4096x1x8, .f32⟩
  | 40 => ⟨S1x4096x1x8, .f32⟩
  | 41 => ⟨S4x4096x1x8, .f32⟩
  | 42 => ⟨S4x4096x1x8, .f32⟩
  | 43 => ⟨S1x4096x1x8, .f32⟩
  | 44 => ⟨S4x4096x1x8, .f32⟩
  | 45 => ⟨S4x4096x1x8, .f32⟩
  | 46 => ⟨S4x4096x1x8, .f32⟩
  | 47 => ⟨S1x4096x1x8, .f32⟩
  | 48 => ⟨S4x4096x1x8, .f32⟩
  | 49 => ⟨S4x4096x1x8, .f32⟩
  | 50 => ⟨S1x4096x1x8, .f32⟩
  | 51 => ⟨S4x4096x1x8, .f32⟩
  | 52 => ⟨S4x4096x1x8, .f32⟩
  | 53 => ⟨S4x4096x1x8, .f32⟩
  | 54 => ⟨S4x4096x1x16, .f32⟩
  | 55 => ⟨S4x4096x1x8, .f32⟩
  | 56 => ⟨S4x4096x1x8, .f32⟩
  | 57 => ⟨S4096x1x8, .f32⟩
  | 58 => ⟨S4096x1x8, .f32⟩
  | 59 => ⟨S1x4096x1x8, .f32⟩
  | 60 => ⟨S4x4096x1x8, .f32⟩
  | 61 => ⟨S4x4096x1x8, .f32⟩
  | 62 => ⟨S1x4096x1x8, .f32⟩
  | 63 => ⟨S4x4096x1x8, .f32⟩
  | 64 => ⟨S4x4096x1x8, .f32⟩
  | 65 => ⟨S4x4096x1x8, .f32⟩
  | 66 => ⟨S1x4096x1x8, .f32⟩
  | 67 => ⟨S4x4096x1x8, .f32⟩
  | 68 => ⟨S4x4096x1x8, .f32⟩
  | 69 => ⟨S1x4096x1x8, .f32⟩
  | 70 => ⟨S4x4096x1x8, .f32⟩
  | 71 => ⟨S4x4096x1x8, .f32⟩
  | 72 => ⟨S4x4096x1x8, .f32⟩
  | 73 => ⟨S4x4096x1x16, .f32⟩
  | 74 => ⟨S4x4096x1x32, .f32⟩
  | 75 => ⟨S4x4096x8x32, .f32⟩
  | 76 => ⟨S4x4096x8x96, .f32⟩
  | 77 => ⟨S1x1x3072, .f32⟩
  | 78 => ⟨S4x4096x3072, .f32⟩
  | 79 => ⟨S4x4096x3072, .f32⟩
  | 80 => ⟨S4x4096x3072, .f32⟩
  | 81 => ⟨S4x4096x3072, .f32⟩
  | 82 => ⟨S_, .f32⟩
  | 83 => ⟨S4x4096x3072, .f32⟩
  | 84 => ⟨S4x4096x3072, .f32⟩
  | 85 => ⟨S_, .f32⟩
  | 86 => ⟨S4x4096x3072, .f32⟩
  | 87 => ⟨S4x4096x3072, .f32⟩
  | 88 => ⟨S_, .f32⟩
  | 89 => ⟨S4x4096x8x32, .f32⟩
  | 90 => ⟨S256, .i32⟩
  | 91 => ⟨S256x1, .i32⟩
  | 92 => ⟨S1x256, .i32⟩
  | 93 => ⟨S256x256, .i32⟩
  | 94 => ⟨S256x256, .i32⟩
  | 95 => ⟨S256x256, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S256x256, .i32⟩
  | 103 => ⟨S256x256, .i32⟩
  | 104 => ⟨S_, .i32⟩
  | 105 => ⟨S256x256, .i32⟩
  | 106 => ⟨S256x256, .i1⟩
  | 107 => ⟨S_, .i32⟩
  | 108 => ⟨S256x256, .i32⟩
  | 109 => ⟨S256x256, .i1⟩
  | 110 => ⟨S_, .i32⟩
  | 111 => ⟨S_, .i1⟩
  | 112 => ⟨S256x256, .i1⟩
  | 113 => ⟨S256x256, .i1⟩
  | 114 => ⟨S256x256, .i1⟩
  | 115 => ⟨S256x256, .i32⟩
  | 116 => ⟨S256x256, .i32⟩
  | 117 => ⟨S256x256, .i32⟩
  | 118 => ⟨S256x256, .f32⟩
  | 119 => ⟨S_, .f32⟩
  | 120 => ⟨S256x256, .f32⟩
  | 121 => ⟨S256x256, .f32⟩
  | 122 => ⟨S256x256, .f32⟩
  | 123 => ⟨S4x4096x256, .f32⟩
  | 124 => ⟨S256x256, .f32⟩
  | 125 => ⟨S4x4096x256, .f32⟩
  | 126 => ⟨S4x4096x512, .f32⟩
  | 127 => ⟨S4x4096x8x128, .f32⟩
  | _ => ⟨S16384x1024, .f32⟩

abbrev hbmTy0_2 (i : Nat) : BufTy := match i % 128 with
  | 0 => ⟨S16384x1024, .f32⟩
  | 1 => ⟨S16384x1024, .bf16⟩
  | 2 => ⟨S16384x512, .f32⟩
  | 3 => ⟨S16384x512, .bf16⟩
  | 4 => ⟨S4x4096x8x128, .f32⟩
  | 5 => ⟨S16384x1024, .f32⟩
  | 6 => ⟨S16384x1024, .bf16⟩
  | 7 => ⟨S16384x512, .f32⟩
  | 8 => ⟨S16384x512, .bf16⟩
  | 9 => ⟨S16384x256, .f32⟩
  | 10 => ⟨S16384x3072, .f32⟩
  | 11 => ⟨S16384x3072, .bf16⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_v62 : Ref sig .tc := ⟨.hbm, 81, rfl⟩
abbrev main_v63 : Ref sig .tc := ⟨.hbm, 82, rfl⟩
abbrev main_cst_9 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_cst_10 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_cst_11 : Ref sig .tc := ⟨.hbm, 142, rfl⟩
abbrev main_v121 : Ref sig .tc := ⟨.hbm, 143, rfl⟩
abbrev main_v122 : Ref sig .tc := ⟨.hbm, 144, rfl⟩
abbrev main_cst_12 : Ref sig .tc := ⟨.hbm, 145, rfl⟩
abbrev main_v123 : Ref sig .tc := ⟨.hbm, 146, rfl⟩
abbrev main_v124 : Ref sig .tc := ⟨.hbm, 147, rfl⟩
abbrev main_cst_13 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_cst_14 : Ref sig .tc := ⟨.hbm, 210, rfl⟩
abbrev main_v186 : Ref sig .tc := ⟨.hbm, 211, rfl⟩
abbrev main_v187 : Ref sig .tc := ⟨.hbm, 212, rfl⟩
abbrev main_cst_15 : Ref sig .tc := ⟨.hbm, 213, rfl⟩
abbrev main_v188 : Ref sig .tc := ⟨.hbm, 214, rfl⟩
abbrev main_v189 : Ref sig .tc := ⟨.hbm, 215, rfl⟩
abbrev main_cst_16 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_c : Ref sig .tc := ⟨.hbm, 224, rfl⟩
abbrev main_call0_v0 : Ref sig .tc := ⟨.hbm, 225, rfl⟩
abbrev main_call0_c : Ref sig .tc := ⟨.hbm, 226, rfl⟩
abbrev main_call0_v1 : Ref sig .tc := ⟨.hbm, 227, rfl⟩
abbrev main_call0_c_0 : Ref sig .tc := ⟨.hbm, 228, rfl⟩
abbrev main_call0_v2 : Ref sig .tc := ⟨.hbm, 229, rfl⟩
abbrev main_call0_v3 : Ref sig .tc := ⟨.hbm, 230, rfl⟩
abbrev main_call0_v4 : Ref sig .tc := ⟨.hbm, 231, rfl⟩
abbrev main_call0_c_1 : Ref sig .tc := ⟨.hbm, 232, rfl⟩
abbrev main_call0_v5 : Ref sig .tc := ⟨.hbm, 233, rfl⟩
abbrev main_call0_v6 : Ref sig .tc := ⟨.hbm, 234, rfl⟩
abbrev main_call0_c_2 : Ref sig .tc := ⟨.hbm, 235, rfl⟩
abbrev main_call0_v7 : Ref sig .tc := ⟨.hbm, 236, rfl⟩
abbrev main_call0_v8 : Ref sig .tc := ⟨.hbm, 237, rfl⟩
abbrev main_call0_c_3 : Ref sig .tc := ⟨.hbm, 238, rfl⟩
abbrev main_call0_v9 : Ref sig .tc := ⟨.hbm, 239, rfl⟩
abbrev main_call0_v10 : Ref sig .tc := ⟨.hbm, 240, rfl⟩
abbrev main_call0_v11 : Ref sig .tc := ⟨.hbm, 241, rfl⟩
abbrev main_call0_v12 : Ref sig .tc := ⟨.hbm, 242, rfl⟩
abbrev main_call0_v13 : Ref sig .tc := ⟨.hbm, 243, rfl⟩
abbrev main_call0_v14 : Ref sig .tc := ⟨.hbm, 244, rfl⟩
abbrev main_v197 : Ref sig .tc := ⟨.hbm, 245, rfl⟩
abbrev main_v198 : Ref sig .tc := ⟨.hbm, 246, rfl⟩
abbrev main_cst_17 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩

abbrev nD : Nat := 1
abbrev τ : Topo := Topo.v7x

variable {F : FTy → Type} [FloatOps F]
-- ==== Kernel4.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S2x1x6144 : Shape := ⟨3, ![2, 1, 6144]⟩
abbrev S2x16x6144 : Shape := ⟨3, ![2, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S2x1x6144, .f32⟩
  | .hbm, ⟨9, _⟩ => ⟨S2x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S2x16x6144 : Shape := ⟨3, ![2, 16, 6144]⟩

abbrev nBuf : Space → Nat
  | .hbm => 45
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S7x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S1x1024x6144, .f32⟩
  | .hbm, ⟨18, _⟩ => ⟨S1024x6144, .f32⟩
  | .hbm, ⟨19, _⟩ => ⟨S16x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S16x6144, .f32⟩
  | .hbm, ⟨24, _⟩ => ⟨S16x6144, .f32⟩
  | .hbm, ⟨25, _⟩ => ⟨S16x1024, .f32⟩
  | .hbm, ⟨26, _⟩ => ⟨S16x1024, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S_, .f32⟩
  | .hbm, ⟨31, _⟩ => ⟨S16x1024, .f32⟩
  | .hbm, ⟨32, _⟩ => ⟨S16x1024, .f32⟩
  | .hbm, ⟨33, _⟩ => ⟨S16x1024, .f32⟩
  | .hbm, ⟨34, _⟩ => ⟨S1x1024x6144, .f32⟩
  | .hbm, ⟨35, _⟩ => ⟨S1024x6144, .f32⟩
  | .hbm, ⟨36, _⟩ => ⟨S16x6144, .f32⟩
  | .hbm, ⟨37, _⟩ => ⟨S1x6144, .f32⟩
  | .hbm, ⟨38, _⟩ => ⟨S6144, .f32⟩
  | .hbm, ⟨39, _⟩ => ⟨S1x6144, .f32⟩
  | .hbm, ⟨40, _⟩ => ⟨S16x6144, .f32⟩
  | .hbm, ⟨41, _⟩ => ⟨S16x6144, .f32⟩
  | .hbm, ⟨42, _⟩ => ⟨S1x16x6144, .f32⟩
  | .hbm, ⟨43, _⟩ => ⟨S1x16x6144, .f32⟩
  | .hbm, ⟨44, _⟩ => ⟨S2x16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]
-- ==== Proof.Attention.Softmax.lean ====
/-
  Softmax over two groups of keys, on extended reals. The kernel keeps the latent keys and the context keys apart: it takes
  the larger of the two maxima, adds the two sums of exponentials, adds the two weighted sums of values, and divides once.
  The reference joins the keys, and divides every weight. `softmax_join`: where the scores are real the two agree, whatever
  the values are.
-/
module

public import Idealize.ShloMosaic.PureOps.Ideal.Laws

@[expose] public section

noncomputable section

namespace Cert.Attention

open Idealize.ShloMosaic

/-- An extended real that is a real number. -/
def IsReal (x : EReal) : Prop := x ≠ ⊥ ∧ x ≠ ⊤

theorem IsReal.lift {x : EReal} (h : IsReal x) : ∃ r : ℝ, x = (r : EReal) :=
  ⟨x.toReal, (EReal.coe_toReal h.2 h.1).symm⟩

theorem isReal_coe (r : ℝ) : IsReal (r : EReal) := ⟨EReal.coe_ne_bot r, EReal.coe_ne_top r⟩

theorem IsReal.mul {x y : EReal} (hx : IsReal x) (hy : IsReal y) : IsReal (x * y) := by
  obtain ⟨a, rfl⟩ := hx.lift
  obtain ⟨b, rfl⟩ := hy.lift
  rw [← EReal.coe_mul]
  exact isReal_coe _

theorem IsReal.add {x y : EReal} (hx : IsReal x) (hy : IsReal y) : IsReal (x + y) := by
  obtain ⟨a, rfl⟩ := hx.lift
  obtain ⟨b, rfl⟩ := hy.lift
  rw [← EReal.coe_add]
  exact isReal_coe _

theorem isReal_sum {ι : Type} (s : Finset ι) (f : ι → EReal) (h : ∀ i ∈ s, IsReal (f i)) : IsReal (∑ i ∈ s, f i) :=
  Finset.sum_induction f IsReal (fun _ _ => IsReal.add) (isReal_coe 0) h

/-- The word that starts a maximum is minus infinity. -/
theorem ofBits_negInf : Ideal.ofBits .f32 0xFF800000#32 = ⊥ := by
  simp [Ideal.ofBits, Ideal.ieee]

/-- The maximum of a family, folded from minus infinity. -/
def maxOf {n : ℕ} (s : Fin n → EReal) : EReal :=
  Finset.univ.fold max (Ideal.ofBits .f32 0xFF800000#32) s

theorem le_maxOf {n : ℕ} (s : Fin n → EReal) (k : Fin n) : s k ≤ maxOf s := by
  unfold maxOf
  exact (Finset.le_fold_max (s k)).2 (Or.inr ⟨k, Finset.mem_univ k, le_rfl⟩)

theorem maxOf_le {n : ℕ} (s : Fin n → EReal) (c : EReal) (h : ∀ k, s k ≤ c) : maxOf s ≤ c := by
  unfold maxOf
  rw [ofBits_negInf]
  exact (Finset.fold_max_le c).2 ⟨bot_le, fun k _ => h k⟩

/-- The maximum of real numbers, one at least, is real. -/
theorem isReal_maxOf {n : ℕ} (s : Fin n → EReal) (k₀ : Fin n) (h : ∀ k, IsReal (s k)) : IsReal (maxOf s) := by
  refine ⟨fun hb => (h k₀).1 (le_bot_iff.1 (hb ▸ le_maxOf s k₀)), fun ht => ?_⟩
  have hlt : maxOf s < ⊤ := by
    unfold maxOf
    rw [ofBits_negInf]
    exact (Finset.fold_max_lt ⊤).2 ⟨bot_lt_top, fun k _ => lt_top_iff_ne_top.2 (h k).2⟩
  exact absurd ht hlt.ne

/-- Softmax attention of one query as the kernel computes it: the latent keys' scores `s` and values `v`, the context keys'
    scores `t` and values `w`. -/
def twoPart {m n : ℕ} (s v : Fin m → EReal) (t w : Fin n → EReal) : EReal :=
  Ideal.div
    (∑ k, Ideal.exp (s k - max (maxOf s) (maxOf t)) * v k + ∑ k, Ideal.exp (t k - max (maxOf s) (maxOf t)) * w k)
    (∑ k, Ideal.exp (s k - max (maxOf s) (maxOf t)) + ∑ k, Ideal.exp (t k - max (maxOf s) (maxOf t)))

/-- The weight that softmax gives key `k` among all keys, the reference's way. -/
def weight {n : ℕ} (y : Fin n → EReal) (k : Fin n) : EReal :=
  Ideal.div (Ideal.exp (y k - max (Ideal.ofBits .f32 0xFF800000#32) (maxOf y)))
    (∑ j, Ideal.exp (y j - max (Ideal.ofBits .f32 0xFF800000#32) (maxOf y)))

/-- A quotient of exponentials shifted by the maximum is a softmax weight. -/
theorem weight_of {n : ℕ} (y e : Fin n → EReal) (k : Fin n)
    (h : ∀ j, e j = Ideal.exp (y j - max (Ideal.ofBits .f32 0xFF800000#32) (maxOf y))) :
    Ideal.div (e k) (∑ j, e j) = weight y k := by
  obtain rfl : e = _ := funext h
  rfl

/-- The kernel's quotient, from the exponentials of the two groups and the two maxima. -/
theorem twoPart_of {m n : ℕ} (s v : Fin m → EReal) (t w : Fin n → EReal) (e : Fin m → EReal) (f : Fin n → EReal)
    (he : ∀ k, e k = Ideal.exp (s k - max (maxOf s) (maxOf t))) (hf : ∀ k, f k = Ideal.exp (t k - max (maxOf s) (maxOf t))) :
    Ideal.div (∑ k, e k * v k + ∑ k, f k * w k) (∑ k, e k + ∑ k, f k) = twoPart s v t w := by
  obtain rfl : e = _ := funext he
  obtain rfl : f = _ := funext hf
  rfl

/-- A nonnegative real factor on the right comes out of a sum. -/
theorem sum_mul_real {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.2 hc) (EReal.coe_ne_top c)]

/-- The maximum over the joined keys is the larger of the two maxima. -/
theorem maxOf_join {m n : ℕ} (y : Fin (n + m) → EReal) :
    maxOf y = max (maxOf fun k : Fin m => y (Fin.natAdd n k)) (maxOf fun k : Fin n => y (Fin.castAdd m k)) := by
  refine le_antisymm (maxOf_le _ _ fun k => ?_) (max_le (maxOf_le _ _ fun k => le_maxOf y _) (maxOf_le _ _ fun k => le_maxOf y _))
  refine Fin.addCases (fun j => ?_) (fun j => ?_) k
  · exact le_max_of_le_right (le_maxOf (fun k : Fin n => y (Fin.castAdd m k)) j)
  · exact le_max_of_le_left (le_maxOf (fun k : Fin m => y (Fin.natAdd n k)) j)

/-- One division at the end is a division of every weight, and the two groups of keys are the joined keys: for real scores,
    at any values. -/
theorem softmax_join {m n : ℕ} (y V : Fin (n + 1 + m) → EReal) (hy : ∀ k, IsReal (y k)) :
    ∑ k, V k * weight y k
      = twoPart (fun k : Fin m => y (Fin.natAdd (n + 1) k)) (fun k : Fin m => V (Fin.natAdd (n + 1) k))
          (fun k : Fin (n + 1) => y (Fin.castAdd m k)) (fun k : Fin (n + 1) => V (Fin.castAdd m k)) := by
  have hM : IsReal (maxOf y) := isReal_maxOf y (Fin.castAdd m 0) hy
  obtain ⟨M, hM⟩ := hM.lift
  choose a ha using fun k => (hy k).lift
  have hmax : max (Ideal.ofBits .f32 0xFF800000#32) (maxOf y) = (M : EReal) := by
    rw [ofBits_negInf, hM]; exact max_eq_right bot_le
  have hmax' : max (maxOf fun k : Fin m => y (Fin.natAdd (n + 1) k)) (maxOf fun k : Fin (n + 1) => y (Fin.castAdd m k))
      = (M : EReal) := by rw [← maxOf_join, hM]
  have hexp : ∀ k, Ideal.exp (y k - (M : EReal)) = ((Real.exp (a k - M) : ℝ) : EReal) := fun k => by
    rw [ha k, ← EReal.coe_sub, Ideal.exp_coe]
  have hden : ∑ k, Ideal.exp (y k - (M : EReal)) = ((∑ k, Real.exp (a k - M) : ℝ) : EReal) := by
    rw [Finset.sum_congr rfl fun k _ => hexp k]
    exact (map_sum (⟨⟨Real.toEReal, EReal.coe_zero⟩, EReal.coe_add⟩ : ℝ →+ EReal) _ _).symm
  have hpos : 0 < ∑ k, Real.exp (a k - M) :=
    Finset.sum_pos (fun k _ => Real.exp_pos _) ⟨Fin.castAdd m 0, Finset.mem_univ _⟩
  have hsplit : (∑ k : Fin m, Ideal.exp (y (Fin.natAdd (n + 1) k) - (M : EReal))
      + ∑ k : Fin (n + 1), Ideal.exp (y (Fin.castAdd m k) - (M : EReal))) = ((∑ k, Real.exp (a k - M) : ℝ) : EReal) := by
    rw [← hden, Fin.sum_univ_add (fun k => Ideal.exp (y k - (M : EReal))), add_comm]
  unfold twoPart weight
  rw [hmax, hmax', hsplit, hden, Ideal.div_coe hpos.ne']
  simp only [Ideal.div_coe hpos.ne', ← mul_assoc]
  rw [sum_mul_real _ _ _ (by positivity), Fin.sum_univ_add (fun k => V k * Ideal.exp (y k - (M : EReal))), add_comm]
  congr 2 <;> exact Finset.sum_congr rfl fun k _ => mul_comm _ _

end Cert.Attention

end
-- ==== Proof.Attention.Block.lean ====
/-
  What one grid point of the attention kernel stores: 256 queries of one pair of heads. Lanes 0 to 63 of a row are the first
  head's attention and lanes 64 to 127 the second head's, each the `twoPart` softmax of the loaded blocks.
-/
module

public import proofs.«01_k».proof.Proof.Gen.KernelIdeal.Frame
public import proofs.«01_k».proof.Proof.Attention.Softmax
public import Idealize.ShloMosaic.Lib.Pointwise
public import Idealize.ShloMosaic.Lib.Pipeline.ValueKit

@[expose] public section

set_option maxRecDepth 16384

noncomputable section

namespace Cert.Attention

open Cert.KernelIdeal Cert.KernelIdeal.Gen Idealize.ShloMosaic Idealize.ShloMosaic.TcCoe

/-- The lane test of the final select: lanes below 64 take the first head. -/
theorem lane_test : ∀ l : Fin 128,
    IntOp.cmpi .slt (BitVec.ofNat 32 l.val) 64#32 = if l.val < 64 then 1#1 else 0#1 := by decide +kernel

/-- The largest score of a row of latent keys. -/
theorem max_latent (s : FVec Ideal S256x4096 .f32) (hφ) (hacc : (0xFF800000#32 : BitVec 32) = 0xFF800000#32) (r : Fin 256) :
    (multiReduction .maximumf [1] S256 s 0xFF800000#32 reduces_S256x4096_S256 hφ hacc : FVec Ideal S256 .f32) (ix1 r)
      = maxOf fun k : Fin 4096 => s (ix2 r k) := by
  unfold maxOf
  pointwise

/-- The largest score of a row of context keys. -/
theorem max_ctx (s : FVec Ideal S256x256 .f32) (hφ) (hacc : (0xFF800000#32 : BitVec 32) = 0xFF800000#32) (r : Fin 256) :
    (multiReduction .maximumf [1] S256 s 0xFF800000#32 reduces_S256x256_S256 hφ hacc : FVec Ideal S256 .f32) (ix1 r)
      = maxOf fun k : Fin 256 => s (ix2 r k) := by
  unfold maxOf
  pointwise

/-- The sum of a row of latent weights. -/
theorem sum_latent (s : FVec Ideal S256x4096 .f32) (r : Fin 256) :
    (multiReduction .add [1] S256 s 0x00000000#32 reduces_S256x4096_S256 (.inl rfl) rfl : FVec Ideal S256 .f32) (ix1 r)
      = ∑ k : Fin 4096, s (ix2 r k) := by
  pointwise

/-- The sum of a row of context weights. -/
theorem sum_ctx (s : FVec Ideal S256x256 .f32) (r : Fin 256) :
    (multiReduction .add [1] S256 s 0x00000000#32 reduces_S256x256_S256 (.inl rfl) rfl : FVec Ideal S256 .f32) (ix1 r)
      = ∑ k : Fin 256, s (ix2 r k) := by
  pointwise

/-- The scores of the latent keys. -/
theorem score_latent (q : FVec Ideal S256x128 .bf16) (k : FVec Ideal S4096x128 .bf16) (r : Fin 256) (j : Fin 4096) :
    (matmul dot_S256x128_S4096x128_S256x4096_1_1_0_0_n_n none q k (constant S256x4096 .f32 0x00000000#32) : FVec Ideal S256x4096 .f32) (ix2 r j)
      = ∑ d : Fin 128, q (ix2 r d) * k (ix2 j d) := by
  pointwise

/-- The scores of the context keys. -/
theorem score_ctx (q k : FVec Ideal S256x128 .bf16) (r : Fin 256) (j : Fin 256) :
    (matmul dot_S256x128_S256x128_S256x256_1_1_0_0_n_n none q k (constant S256x256 .f32 0x00000000#32) : FVec Ideal S256x256 .f32) (ix2 r j)
      = ∑ d : Fin 128, q (ix2 r d) * k (ix2 j d) := by
  pointwise

/-- The weighted sum of the latent values. -/
theorem mix_latent (p : FVec Ideal S256x4096 .f32) (v : FVec Ideal S4096x128 .bf16) (r : Fin 256) (l : Fin 128) :
    (matmul dot_S256x4096_S4096x128_S256x128_1_0_0_1_n_n none (truncf .bf16 p bitsLt_bf16_f32) v (constant S256x128 .f32 0x00000000#32) : FVec Ideal S256x128 .f32) (ix2 r l)
      = ∑ k : Fin 4096, p (ix2 r k) * v (ix2 k l) := by
  pointwise

/-- The weighted sum of the context values. -/
theorem mix_ctx (p : FVec Ideal S256x256 .f32) (v : FVec Ideal S256x128 .bf16) (r : Fin 256) (l : Fin 128) :
    (matmul dot_S256x256_S256x128_S256x128_1_0_0_1_n_n none (truncf .bf16 p bitsLt_bf16_f32) v (constant S256x128 .f32 0x00000000#32) : FVec Ideal S256x128 .f32) (ix2 r l)
      = ∑ k : Fin 256, p (ix2 r k) * v (ix2 k l) := by
  pointwise

/-- A latent weight: the exponential of the score less the larger maximum. -/
theorem exp_latent (s : FVec Ideal S256x4096 .f32) (z w : FVec Ideal S256 .f32) (r : Fin 256) (j : Fin 4096) :
    exp (subf s (broadcastTo S256x4096 (maximumf (shapeCast S256x1 z shapeCasts_S256_S256x1) (shapeCast S256x1 w shapeCasts_S256_S256x1)) broadcasts_S256x1_S256x4096)) (ix2 r j)
      = Ideal.exp (s (ix2 r j) - max (z (ix1 r)) (w (ix1 r))) := by
  pointwise

/-- A context weight. -/
theorem exp_ctx (s : FVec Ideal S256x256 .f32) (z w : FVec Ideal S256 .f32) (r : Fin 256) (j : Fin 256) :
    exp (subf s (broadcastTo S256x256 (maximumf (shapeCast S256x1 z shapeCasts_S256_S256x1) (shapeCast S256x1 w shapeCasts_S256_S256x1)) broadcasts_S256x1_S256x256)) (ix2 r j)
      = Ideal.exp (s (ix2 r j) - max (z (ix1 r)) (w (ix1 r))) := by
  pointwise

/-- The one division of a row. -/
theorem div_row (p o : FVec Ideal S256x128 .f32) (z w : FVec Ideal S256 .f32) (r : Fin 256) (l : Fin 128) :
    divf (addf p o) (broadcastTo S256x128 (addf (shapeCast S256x1 z shapeCasts_S256_S256x1) (shapeCast S256x1 w shapeCasts_S256_S256x1)) broadcasts_S256x1_S256x128) (ix2 r l)
      = Ideal.div (p (ix2 r l) + o (ix2 r l)) (z (ix1 r) + w (ix1 r)) := by
  pointwise

/-- The choice between the two heads by lane. -/
theorem choose_head (a b : FVec Ideal S256x128 .f32) (r : Fin 256) (l : Fin 128) :
    (truncf .bf16 (select (cmpi .slt (iota .tc S256x128 32 [1] iota_S256x128_d1_w32) (broadcast S256x128 64#32)) a b) bitsLt_bf16_f32 : FVec Ideal S256x128 .bf16) (ix2 r l)
      = if l.val < 64 then a (ix2 r l) else b (ix2 r l) := by
  pointwise
  rw [lane_test l]
  unfold Scalar.select
  by_cases h : l.val < 64
  · rw [if_pos h, if_pos h]; exact if_pos rfl
  · rw [if_neg h, if_neg h]; exact if_neg (by decide)

/-- The scores of a head's latent keys, as the body names them. -/
theorem pay3_apply (q : FVec Ideal S256x128 .bf16) (k : FVec Ideal S4096x128 .bf16) (r : Fin 256) (j : Fin 4096) :
    k0_pay3 (F := Ideal) q k (ix2 r j) = ∑ d : Fin 128, q (ix2 r d) * k (ix2 j d) :=
  score_latent q k r j

/-- The first head's row. -/
theorem pay2_apply (q : FVec Ideal S256x128 .bf16) (k : FVec Ideal S4096x128 .bf16) (kc : FVec Ideal S256x128 .bf16)
    (v : FVec Ideal S4096x128 .bf16) (vc : FVec Ideal S256x128 .bf16) (r : Fin 256) (l : Fin 128) :
    k0_pay2 (F := Ideal) q k kc v vc (ix2 r l)
      = twoPart (fun j : Fin 4096 => ∑ d : Fin 128, q (ix2 r d) * k (ix2 j d)) (fun j => v (ix2 j l))
          (fun j : Fin 256 => ∑ d : Fin 128, q (ix2 r d) * kc (ix2 j d)) (fun j => vc (ix2 j l)) := by
  simp only [k0_pay2]
  rw [div_row, mix_latent, mix_ctx, sum_latent, sum_ctx]
  refine twoPart_of _ _ _ _ _ _ (fun j => ?_) fun j => ?_
  · rw [exp_latent, max_latent, max_ctx]; simp only [score_latent, score_ctx]
  · rw [exp_ctx, max_latent, max_ctx]; simp only [score_latent, score_ctx]

/-- The second head's row, and the choice between the two heads by lane. -/
theorem pay1_apply (o : FVec Ideal S256x128 .f32) (q : FVec Ideal S256x128 .bf16) (s : FVec Ideal S256x4096 .f32)
    (kc : FVec Ideal S256x128 .bf16) (v : FVec Ideal S4096x128 .bf16) (vc : FVec Ideal S256x128 .bf16) (r : Fin 256) (l : Fin 128) :
    k0_pay1 (F := Ideal) o q s kc v vc (ix2 r l)
      = if l.val < 64 then o (ix2 r l)
        else twoPart (fun j : Fin 4096 => s (ix2 r j)) (fun j => v (ix2 j l))
          (fun j : Fin 256 => ∑ d : Fin 128, q (ix2 r d) * kc (ix2 j d)) (fun j => vc (ix2 j l)) := by
  simp only [k0_pay1]
  rw [choose_head, div_row, mix_latent, mix_ctx, sum_latent, sum_ctx]
  refine congrArg (ite (l.val < 64) (o (ix2 r l))) (twoPart_of _ _ _ _ _ _ (fun j => ?_) fun j => ?_)
  · rw [exp_latent, max_latent, max_ctx]; simp only [score_ctx]
  · rw [exp_ctx, max_latent, max_ctx]; simp only [score_ctx]

/-- The attention of head `h` of a block's pair, for the query in row `r` and the value lane `l`. -/
def blockHead (h : Fin 2) (x0 : Vec Ideal S256x256 .bf16) (x1 : Vec Ideal S4096x256 .bf16) (x2 : Vec Ideal S4096x128 .bf16)
    (x3 : Vec Ideal S256x256 .bf16) (x4 : Vec Ideal S256x128 .bf16) (r : Fin 256) (l : Fin 128) : EReal :=
  twoPart
    (fun j : Fin 4096 => ∑ d : Fin 128, x0 (ix2 r ⟨h.val * 128 + d.val, by omega⟩) * x1 (ix2 j ⟨h.val * 128 + d.val, by omega⟩))
    (fun j => x2 (ix2 j l))
    (fun j : Fin 256 => ∑ d : Fin 128, x0 (ix2 r ⟨h.val * 128 + d.val, by omega⟩) * x3 (ix2 j ⟨h.val * 128 + d.val, by omega⟩))
    (fun j => x4 (ix2 j l))

/-- What a grid point leaves in its output block, at an index: the first head in lanes 0 to 63, the second in the others. -/
theorem out_apply (x0 : Vec Ideal S256x256 .bf16) (x1 : Vec Ideal S4096x256 .bf16) (x2 : Vec Ideal S4096x128 .bf16)
    (x3 : Vec Ideal S256x256 .bf16) (x4 : Vec Ideal S256x128 .bf16) (r : Fin 256) (l : Fin 128) :
    out0_5 x0 x1 x2 x3 x4 (ix2 r l)
      = if l.val < 64 then blockHead 0 x0 x1 x2 x3 x4 r l else blockHead 1 x0 x1 x2 x3 x4 r l := by
  frame_out
  rw [pay1_apply, pay2_apply]
  simp only [pay3_apply]
  unfold blockHead
  pointwise

end Cert.Attention

end
-- ==== Proof.Attention.Reference.lean ====
/-
  What the reference computes, at an index: for query row `r` and value lane `l` of the flat arrays, the `twoPart` softmax of
  the same scores and values that a block of the kernel takes, where queries and keys are real numbers.
-/
module

public import proofs.«01_k».proof.Proof.Gen.ReferenceIdeal.Read
public import proofs.«01_k».proof.Proof.Attention.Softmax
public import Idealize.ShloMosaic.Lib.Pointwise

@[expose] public section

set_option maxRecDepth 16384

noncomputable section

namespace Cert.Attention

open Cert.ReferenceIdeal Cert.ReferenceIdeal.Gen Cert.ReferenceIdeal.Read Idealize.ShloMosaic Idealize.ShloMosaic.TcCoe

/-- The attention of the flat arrays, for query row `r` and value lane `l`: head `l / 64` over the keys of batch `r / 4096`. -/
def attend (x0 x1 : FVec Ideal S16384x1024 .bf16) (x2 : FVec Ideal S16384x512 .bf16) (x3 : FVec Ideal S1024x1024 .bf16)
    (x4 : FVec Ideal S1024x512 .bf16) (r : Fin 16384) (l : Fin 512) : EReal :=
  twoPart
    (fun j : Fin 4096 => ∑ d : Fin 128, x0 (ix2 r ⟨l.val / 64 * 128 + d.val, by omega⟩)
      * x1 (ix2 ⟨r.val / 4096 * 4096 + j.val, by omega⟩ ⟨l.val / 64 * 128 + d.val, by omega⟩))
    (fun j : Fin 4096 => x2 (ix2 ⟨r.val / 4096 * 4096 + j.val, by omega⟩ l))
    (fun j : Fin 256 => ∑ d : Fin 128, x0 (ix2 r ⟨l.val / 64 * 128 + d.val, by omega⟩)
      * x3 (ix2 ⟨r.val / 4096 * 256 + j.val, by omega⟩ ⟨l.val / 64 * 128 + d.val, by omega⟩))
    (fun j : Fin 256 => x4 (ix2 ⟨r.val / 4096 * 256 + j.val, by omega⟩ l))

/-- The reference's scores: query `q` of batch `b` against key `k` of the joined keys, in head `h`. -/
theorem ref_score (x0 x1 : FVec Ideal S16384x1024 .bf16) (x3 : FVec Ideal S1024x1024 .bf16)
    (b : Fin 4) (h : Fin 8) (q : Fin 4096) (k : Fin 4352) :
    val_main_v12 (F := Ideal) x0 x1 x3 (ix4 b h q k)
      = ∑ d : Fin 128, x0 (ix2 ⟨b.val * 4096 + q.val, by omega⟩ ⟨h.val * 128 + d.val, by omega⟩)
          * (if hk : k.val < 256 then x3 (ix2 ⟨b.val * 256 + k.val, by omega⟩ ⟨h.val * 128 + d.val, by omega⟩)
             else x1 (ix2 ⟨b.val * 4096 + (k.val - 256), by omega⟩ ⟨h.val * 128 + d.val, by omega⟩)) := by
  pointwise [val_main_v12, val_main_v10, val_main_v7, val_main_v6, val_main_v3, val_main_v2, val_main_v1, val_main_v0]

/-- The largest score of a query's row. -/
theorem ref_max (x0 x1 : FVec Ideal S16384x1024 .bf16) (x3 : FVec Ideal S1024x1024 .bf16) (b : Fin 4) (h : Fin 8) (q : Fin 4096) :
    val_main_v13 (F := Ideal) x0 x1 x3 (ix3 b h q) = maxOf fun k : Fin 4352 => val_main_v12 (F := Ideal) x0 x1 x3 (ix4 b h q k) := by
  unfold val_main_v13 maxOf
  generalize val_main_v12 (F := Ideal) x0 x1 x3 = y
  pointwise [val_main_cst]

/-- The exponential of a score less the row's maximum. -/
theorem ref_exp (x0 x1 : FVec Ideal S16384x1024 .bf16) (x3 : FVec Ideal S1024x1024 .bf16) (b : Fin 4) (h : Fin 8) (q : Fin 4096)
    (k : Fin 4352) :
    val_main_v19 (F := Ideal) x0 x1 x3 (ix4 b h q k)
      = Ideal.exp (val_main_v12 (F := Ideal) x0 x1 x3 (ix4 b h q k) - val_main_v15 (F := Ideal) x0 x1 x3 (ix3 b h q)) := by
  unfold val_main_v19 val_main_v18 val_main_v17 val_main_v16
  generalize val_main_v15 (F := Ideal) x0 x1 x3 = z
  generalize val_main_v12 (F := Ideal) x0 x1 x3 = y
  pointwise

/-- The sum of a row's exponentials. -/
theorem ref_den (x0 x1 : FVec Ideal S16384x1024 .bf16) (x3 : FVec Ideal S1024x1024 .bf16) (b : Fin 4) (h : Fin 8) (q : Fin 4096) :
    val_main_v20 (F := Ideal) x0 x1 x3 (ix3 b h q) = ∑ k : Fin 4352, val_main_v19 (F := Ideal) x0 x1 x3 (ix4 b h q k) := by
  unfold val_main_v20
  generalize val_main_v19 (F := Ideal) x0 x1 x3 = y
  pointwise [val_main_cst_1]

/-- The maximum that the exponentials are shifted by. -/
theorem ref_shift (x0 x1 : FVec Ideal S16384x1024 .bf16) (x3 : FVec Ideal S1024x1024 .bf16) (b : Fin 4) (h : Fin 8) (q : Fin 4096) :
    val_main_v15 (F := Ideal) x0 x1 x3 (ix3 b h q) = max (Ideal.ofBits .f32 0xFF800000#32)
      (val_main_v13 (F := Ideal) x0 x1 x3 (ix3 b h q)) := by
  rw [val_main_v15_apply, val_main_v14_apply, val_main_cst_0_apply]
  generalize val_main_v13 (F := Ideal) x0 x1 x3 (ix3 b h q) = z
  exact Ideal.maximumf_def _ _

/-- A weight is an exponential divided by the row's sum. -/
theorem ref_quot (x0 x1 : FVec Ideal S16384x1024 .bf16) (x3 : FVec Ideal S1024x1024 .bf16)
    (b : Fin 4) (h : Fin 8) (q : Fin 4096) (k : Fin 4352) :
    val_main_v23 (F := Ideal) x0 x1 x3 (ix4 b h q k) = Ideal.div (val_main_v19 (F := Ideal) x0 x1 x3 (ix4 b h q k))
      (val_main_v20 (F := Ideal) x0 x1 x3 (ix3 b h q)) := by
  unfold val_main_v23 val_main_v22 val_main_v21
  generalize val_main_v20 (F := Ideal) x0 x1 x3 = d
  generalize val_main_v19 (F := Ideal) x0 x1 x3 = e
  pointwise

/-- The reference's softmax: the weight of key `k` among all keys. -/
theorem ref_weight (x0 x1 : FVec Ideal S16384x1024 .bf16) (x3 : FVec Ideal S1024x1024 .bf16)
    (b : Fin 4) (h : Fin 8) (q : Fin 4096) (k : Fin 4352) :
    val_main_v23 (F := Ideal) x0 x1 x3 (ix4 b h q k)
      = weight (fun k' : Fin 4352 => val_main_v12 (F := Ideal) x0 x1 x3 (ix4 b h q k')) k := by
  rw [ref_quot, ref_den]
  exact weight_of _ (fun k' => val_main_v19 (F := Ideal) x0 x1 x3 (ix4 b h q k')) k fun j =>
    (ref_exp x0 x1 x3 b h q j).trans (by rw [ref_shift, ref_max])

/-- The reference's values: the joined context and latent values of head `h`. -/
theorem ref_value (x2 : FVec Ideal S16384x512 .bf16) (x4 : FVec Ideal S1024x512 .bf16)
    (b : Fin 4) (k : Fin 4352) (h : Fin 8) (d : Fin 64) :
    val_main_v11 (F := Ideal) x2 x4 (ix4 b k h d)
      = if hk : k.val < 256 then x4 (ix2 ⟨b.val * 256 + k.val, by omega⟩ ⟨h.val * 64 + d.val, by omega⟩)
        else x2 (ix2 ⟨b.val * 4096 + (k.val - 256), by omega⟩ ⟨h.val * 64 + d.val, by omega⟩) := by
  pointwise [val_main_v11, val_main_v9, val_main_v8, val_main_v5, val_main_v4]

/-- The reference's result as a sum over the joined keys. -/
theorem ref_sum (x0 x1 : FVec Ideal S16384x1024 .bf16) (x2 : FVec Ideal S16384x512 .bf16) (x3 : FVec Ideal S1024x1024 .bf16)
    (x4 : FVec Ideal S1024x512 .bf16) (r : Fin 16384) (l : Fin 512) :
    val_main_v27 (F := Ideal) x0 x1 x2 x3 x4 (ix2 r l)
      = ∑ k : Fin 4352, val_main_v11 (F := Ideal) x2 x4 (ix4 ⟨r.val / 4096, by omega⟩ k ⟨l.val / 64, by omega⟩ ⟨l.val % 64, by omega⟩)
          * val_main_v23 (F := Ideal) x0 x1 x3 (ix4 ⟨r.val / 4096, by omega⟩ ⟨l.val / 64, by omega⟩ ⟨r.val % 4096, by omega⟩ k) := by
  pointwise [val_main_v27, val_main_v26, val_main_v25, val_main_v24]

/-- The reference's result is `attend`, for real queries and keys. -/
theorem ref_eq (x0 x1 : FVec Ideal S16384x1024 .bf16) (x2 : FVec Ideal S16384x512 .bf16) (x3 : FVec Ideal S1024x1024 .bf16)
    (x4 : FVec Ideal S1024x512 .bf16) (h0 : ∀ i, IsReal (x0 i)) (h1 : ∀ i, IsReal (x1 i)) (h3 : ∀ i, IsReal (x3 i))
    (r : Fin 16384) (l : Fin 512) :
    val_main_v27 (F := Ideal) x0 x1 x2 x3 x4 (ix2 r l) = attend x0 x1 x2 x3 x4 r l := by
  rw [ref_sum]
  simp only [ref_weight]
  rw [softmax_join (m := 4096) (n := 255)]
  · unfold attend
    simp only [ref_score, ref_value]
    have hq : (⟨r.val / 4096 * 4096 + r.val % 4096, by omega⟩ : Fin 16384) = r := Fin.ext (Nat.div_add_mod' _ _)
    have hl : (⟨l.val / 64 * 64 + l.val % 64, by omega⟩ : Fin 512) = l := Fin.ext (Nat.div_add_mod' _ _)
    have hj : ∀ j : Fin 4096, (⟨r.val / 4096 * 4096 + ((Fin.natAdd (255 + 1) j).val - 256), by simp; omega⟩ : Fin 16384)
        = ⟨r.val / 4096 * 4096 + j.val, by omega⟩ := fun j => Fin.ext (by simp)
    simp only [hq, hl]
    congr 1
    · funext j
      refine Finset.sum_congr rfl fun d _ => ?_
      rw [dif_neg (by simp), hj]
    · funext j
      rw [dif_neg (by simp), hj]
    · funext j
      refine Finset.sum_congr rfl fun d _ => ?_
      rw [dif_pos (by simp)]
      rfl
    · funext j
      rw [dif_pos (by simp)]
      rfl
  · intro k
    rw [ref_score]
    refine isReal_sum _ _ fun d _ => (h0 _).mul ?_
    split
    · exact h3 _
    · exact h1 _

end Cert.Attention

end
-- ==== Proof.Attention.Array.lean ====
/-
  The array that the attention kernel leaves: every element is `attend` of the launch's arrays. Grid point (b, p, i) takes
  the queries 4096 b + 256 i and up of head pair p, with the latent keys and the context keys of batch b, and its block of
  the result is those rows in the pair's 128 lanes.
-/
module

public import proofs.«01_k».proof.Proof.Gen.KernelIdeal.Value
public import proofs.«01_k».proof.Proof.Attention.Block
public import proofs.«01_k».proof.Proof.Attention.Reference

@[expose] public section

set_option maxRecDepth 16384

noncomputable section

namespace Cert.Attention

open Cert.KernelIdeal Cert.KernelIdeal.Gen Idealize.ShloMosaic Idealize.ShloMosaic.TcCoe
open Idealize.ShloMosaic.Pipeline (Dat)

variable (m : (ℓ : Loc nD τ sig) → Buf (Elt Ideal) ℓ)

/-- Where each window's block lies at a grid point, in blocks: the row block and the column block. -/
theorem idx : ∀ t : Fin grid0.N,
    win0_0.index t = ![(grid0.coords t 0).val * 16 + (grid0.coords t 2).val, (grid0.coords t 1).val]
    ∧ win0_1.index t = ![(grid0.coords t 0).val, (grid0.coords t 1).val]
    ∧ win0_2.index t = ![(grid0.coords t 0).val, (grid0.coords t 1).val]
    ∧ win0_3.index t = ![(grid0.coords t 0).val, (grid0.coords t 1).val]
    ∧ win0_4.index t = ![(grid0.coords t 0).val, (grid0.coords t 1).val]
    ∧ win0_5.index t = ![(grid0.coords t 0).val * 16 + (grid0.coords t 2).val, (grid0.coords t 1).val] := by
  decide +kernel

/-- The grid coordinates are below the grid's sizes. -/
theorem coords_lt : ∀ t : Fin grid0.N,
    (grid0.coords t 0).val < 4 ∧ (grid0.coords t 1).val < 4 ∧ (grid0.coords t 2).val < 16 := by
  decide +kernel

/-- Row `r` of a query block, in the array. -/
def qRow (t : Fin grid0.N) (r : Fin 256) : Fin 16384 :=
  ⟨((grid0.coords t 0).val * 16 + (grid0.coords t 2).val) * 256 + r.val, by have := coords_lt t; omega⟩

/-- Row `j` of a batch's latent keys, in the array. -/
def kRow (t : Fin grid0.N) (j : Fin 4096) : Fin 16384 :=
  ⟨(grid0.coords t 0).val * 4096 + j.val, by have := coords_lt t; omega⟩

/-- Row `j` of a batch's context keys, in the array. -/
def cRow (t : Fin grid0.N) (j : Fin 256) : Fin 1024 :=
  ⟨(grid0.coords t 0).val * 256 + j.val, by have := coords_lt t; omega⟩

/-- Lane `l` of a head pair's queries and keys, in the array. -/
def qLane (t : Fin grid0.N) (l : Fin 256) : Fin 1024 :=
  ⟨(grid0.coords t 1).val * 256 + l.val, by have := coords_lt t; omega⟩

/-- Lane `l` of a head pair's values, in the array. -/
def vLane (t : Fin grid0.N) (l : Fin 128) : Fin 512 :=
  ⟨(grid0.coords t 1).val * 128 + l.val, by have := coords_lt t; omega⟩

theorem read0 (c : Dev nD) (t : Fin grid0.N) (r : Fin 256) (l : Fin 256) :
    iblk m c 0 t (ix2 r l) = m ((c : Thread nD τ).loc main_arg0) (ix2 (qRow t r) (qLane t l)) := by
  blk_ext [iblk, V, idx t, qRow, qLane]

theorem read1 (c : Dev nD) (t : Fin grid0.N) (r : Fin 4096) (l : Fin 256) :
    iblk m c 1 t (ix2 r l) = m ((c : Thread nD τ).loc main_arg1) (ix2 (kRow t r) (qLane t l)) := by
  blk_ext [iblk, V, idx t, kRow, qLane]

theorem read2 (c : Dev nD) (t : Fin grid0.N) (r : Fin 4096) (l : Fin 128) :
    iblk m c 2 t (ix2 r l) = m ((c : Thread nD τ).loc main_arg2) (ix2 (kRow t r) (vLane t l)) := by
  blk_ext [iblk, V, idx t, kRow, vLane]

theorem read3 (c : Dev nD) (t : Fin grid0.N) (r : Fin 256) (l : Fin 256) :
    iblk m c 3 t (ix2 r l) = m ((c : Thread nD τ).loc main_arg3) (ix2 (cRow t r) (qLane t l)) := by
  blk_ext [iblk, V, idx t, cRow, qLane]

theorem read4 (c : Dev nD) (t : Fin grid0.N) (r : Fin 256) (l : Fin 128) :
    iblk m c 4 t (ix2 r l) = m ((c : Thread nD τ).loc main_arg4) (ix2 (cRow t r) (vLane t l)) := by
  blk_ext [iblk, V, idx t, cRow, vLane]

/-- A block's head is the flat arrays' head: the queries, keys and values that the block reads are those that `attend` reads. -/
theorem blockHead_eq (c : Dev nD) (t : Fin grid0.N) (h : Fin 2) (r : Fin 256) (l : Fin 128) (hl : l.val / 64 = h.val) :
    blockHead h (iblk m c 0 t) (iblk m c 1 t) (iblk m c 2 t) (iblk m c 3 t) (iblk m c 4 t) r l
      = attend (m ((c : Thread nD τ).loc main_arg0)) (m ((c : Thread nD τ).loc main_arg1)) (m ((c : Thread nD τ).loc main_arg2))
          (m ((c : Thread nD τ).loc main_arg3)) (m ((c : Thread nD τ).loc main_arg4)) (qRow t r) (vLane t l) := by
  obtain ⟨hb, hp, hi⟩ := coords_lt t
  have key : ∀ j : Fin 4096, kRow t j = ⟨(qRow t r).val / 4096 * 4096 + j.val, by omega⟩ := fun j =>
    Fin.ext (by simp only [kRow, qRow]; omega)
  have ctx : ∀ j : Fin 256, cRow t j = ⟨(qRow t r).val / 4096 * 256 + j.val, by omega⟩ := fun j =>
    Fin.ext (by simp only [cRow, qRow]; omega)
  have lane : ∀ d : Fin 128, qLane t ⟨h.val * 128 + d.val, by omega⟩ = ⟨(vLane t l).val / 64 * 128 + d.val, by omega⟩ := fun d =>
    Fin.ext (by simp only [qLane, vLane]; omega)
  unfold blockHead attend
  simp only [read0, read1, read2, read3, read4, key, ctx, lane]

/-- Where an output block's element lies, in the array. -/
theorem place (t : Fin grid0.N) (y0 : Fin 256) (y1 : Fin 128) :
    (((View.whole main_v0).slice (win0_5.rect t)).emb (ix2 y0 y1) : S16384x512.Idx) = ix2 (qRow t y0) (vLane t y1) := by
  blk_ext [idx t, qRow, vLane]

/-- The array after the run is `attend` of the launch's arrays, at every row and lane. -/
theorem final (c : Dev nD) : (dats m 0 c).arrAt 5 cfg0.N = fun i : S16384x512.Idx =>
    attend (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  idx_vars y
  rw [place, out_apply]
  split
  · exact blockHead_eq m c t 0 y0 y1 (by simp; omega)
  · exact blockHead_eq m c t 1 y0 y1 (by simp; omega)

end Cert.Attention

end
-- ==== Proof.Attention.Finite.lean ====
/-
  What the precondition gives: every query and every key, latent or context, is a real number.
-/
module

public import proofs.«01_k».proof.Proof.Gen.Pre_finite_scores
public import proofs.«01_k».proof.Proof.Attention.Softmax
public import Idealize.ShloMosaic.Lib.Pointwise

@[expose] public section

set_option maxRecDepth 16384

noncomputable section

namespace Cert.Attention

open Cert.Pre_finite_scores Idealize.ShloMosaic

/-- A number whose absolute value is below the format's +infinity is real. -/
theorem isReal_of_abs_lt {x : EReal}
    (h : BitVec.ofBool (decide (FloatOps.absf (F := Ideal) (φ := .f32) x < Ideal.ofBits .f32 0x7F800000#32)) = 1#1) : IsReal x := by
  have htop : Ideal.ofBits .f32 0x7F800000#32 = (⊤ : EReal) := by simp [Ideal.ofBits, Ideal.ieee]
  rw [htop] at h
  have hlt : FloatOps.absf (F := Ideal) (φ := .f32) x < (⊤ : EReal) := by
    by_contra hn
    rw [decide_eq_false hn] at h
    exact absurd h (by decide)
  constructor
  · rintro rfl
    exact absurd hlt (by simp [FloatOps.absf])
  · rintro rfl
    exact absurd hlt (by simp [FloatOps.absf])

variable (x0 x1 : FVec Ideal S16384x1024 .bf16) (x2 : FVec Ideal S16384x512 .bf16) (x3 : FVec Ideal S1024x1024 .bf16)
  (x4 : FVec Ideal S1024x512 .bf16)

/-- The precondition at row `r` of the joined queries, latent keys and context keys. -/
theorem fn_apply (r : Fin 33792) (l : Fin 1024) :
    Cert.Pre_finite_scores.fn (F := Ideal) x0 x1 x2 x3 x4 (ix2 r l)
      = BitVec.ofBool (decide (FloatOps.absf (F := Ideal) (φ := .f32)
          (if h : r.val < 16384 then x0 (ix2 ⟨r.val, h⟩ l)
            else if h' : r.val - 16384 < 16384 then x1 (ix2 ⟨r.val - 16384, h'⟩ l)
            else x3 (ix2 ⟨r.val - 16384 - 16384, by omega⟩ l)) < Ideal.ofBits .f32 0x7F800000#32)) := by
  pointwise [Cert.Pre_finite_scores.fn]

variable {x0 x1 x2 x3 x4} (h : Cert.Pre_finite_scores.fn (F := Ideal) x0 x1 x2 x3 x4 = fun _ => 1#1)
include h

/-- The queries are real. -/
theorem isReal_q (i : S16384x1024.Idx) : IsReal (x0 i) := by
  idx_vars i
  have := (fn_apply x0 x1 x2 x3 x4 ⟨i0.val, by omega⟩ i1).symm.trans (congrFun h _)
  rw [dif_pos i0.isLt] at this
  exact isReal_of_abs_lt this

/-- The latent keys are real. -/
theorem isReal_k (i : S16384x1024.Idx) : IsReal (x1 i) := by
  idx_vars i
  have := (fn_apply x0 x1 x2 x3 x4 ⟨16384 + i0.val, by omega⟩ i1).symm.trans (congrFun h _)
  rw [dif_neg (by simp), dif_pos (by simp)] at this
  simpa using isReal_of_abs_lt this

/-- The context keys are real. -/
theorem isReal_kc (i : S1024x1024.Idx) : IsReal (x3 i) := by
  idx_vars i
  have := (fn_apply x0 x1 x2 x3 x4 ⟨16384 + 16384 + i0.val, by omega⟩ i1).symm.trans (congrFun h _)
  rw [dif_neg (by simp; omega), dif_neg (by simp; omega)] at this
  have e : ∀ p, (⟨16384 + 16384 + i0.val - 16384 - 16384, p⟩ : Fin 1024) = i0 := fun p => Fin.ext (by simp; omega)
  simpa [e] using isReal_of_abs_lt this

end Cert.Attention

end
-- ==== Proof.Attention.Claim.lean ====
/-
  The claims about the attention call: the frame of the reference, and the value claim, that where queries and keys are finite the
  kernel's array and the reference's are the same array of extended reals.
-/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Attention.Array
public import proofs.«01_k».proof.Proof.Attention.Finite

@[expose] public section

set_option maxRecDepth 16384

noncomputable section

namespace Cert.Attention

open Idealize.ShloMosaic Idealize.SL.Sem

/-- The reference's frame, with every counter at zero at the end. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's array as a function of its arguments: `attend`, where queries and keys are real. -/
theorem ref_array (x0 x1 : FVec Ideal Cert.ReferenceIdeal.S16384x1024 .bf16) (x2 : FVec Ideal Cert.ReferenceIdeal.S16384x512 .bf16)
    (x3 : FVec Ideal Cert.ReferenceIdeal.S1024x1024 .bf16) (x4 : FVec Ideal Cert.ReferenceIdeal.S1024x512 .bf16)
    (h : Cert.Pre_finite_scores.fn (F := Ideal) x0 x1 x2 x3 x4 = fun _ => 1#1) :
    Cert.ReferenceIdeal.Read.val_main_v27 (F := Ideal) x0 x1 x2 x3 x4
      = fun i : Cert.ReferenceIdeal.S16384x512.Idx => attend x0 x1 x2 x3 x4 (i 0) (i 1) := by
  funext i
  idx_vars i
  exact ref_eq x0 x1 x2 x3 x4 (isReal_q h) (isReal_k h) (isReal_kc h) i0 i1

/-- The value claim. -/
theorem algebraic : Cert.algebraic_KernelIdeal_ReferenceIdeal_pre_finite_scores := fun m g m' g' hpre hag =>
  ⟨fun c => fun i : Cert.KernelIdeal.S16384x512.Idx =>
      attend (m (c.tc.loc Cert.KernelIdeal.main_arg0)) (m (c.tc.loc Cert.KernelIdeal.main_arg1)) (m (c.tc.loc Cert.KernelIdeal.main_arg2))
        (m (c.tc.loc Cert.KernelIdeal.main_arg3)) (m (c.tc.loc Cert.KernelIdeal.main_arg4)) (i 0) (i 1),
    (θ_run Cert.KernelIdeal.defs _ _).mono (fun _ h c => ⟨(h c).1.trans (final m c), (h c).2⟩)
      (Cert.KernelIdeal.Value.run_blocks (F := Ideal) m g),
    (θ_run Cert.ReferenceIdeal.defs _ _).mono (fun _ h c => ⟨by
        obtain ⟨e0, e1, e2, e3, e4⟩ := hag c
        refine (h c).1.trans ?_
        rw [Cert.ReferenceIdeal.Read.val_main_v27_eq, e0, e1, e2, e3, e4]
        exact ref_array _ _ _ _ _ (hpre c), (h c).2⟩)
      (Cert.ReferenceIdeal.Value.run (F := Ideal) m' g')⟩

end Cert.Attention

end
-- ==== Proof.Rows.lean ====
/-
  The row operations that the two projections share, over functions of a row's lanes: the RMS norm with a gain, and the modulated
  norm of a row.
-/
module

public import Idealize.ShloMosaic.Lib.Pointwise

@[expose] public section

noncomputable section

namespace Cert.Rows

open Idealize.ShloMosaic

/-- A row divided by its root mean square: `N` is the bits of the row's length, and 0x358637BD those of the term that keeps the
    root away from zero. -/
def unit {n : ℕ} (N : BitVec 32) (x : Fin n → EReal) (d : Fin n) : EReal :=
  x d * Ideal.rsqrt (Ideal.div (∑ e, x e * x e) (Ideal.ofBits .f32 N) + Ideal.ofBits .f32 0x358637BD#32)

/-- The normed row with its gain. -/
def normed {n : ℕ} (N : BitVec 32) (x g : Fin n → EReal) (d : Fin n) : EReal := unit N x d * g d

/-- The modulated norm of a row: the normed row scaled by one plus `scale`, and shifted. -/
def modulated (x g shift scale : Fin 1024 → EReal) (d : Fin 1024) : EReal :=
  normed 0x44800000#32 x g d * (Ideal.ofBits .f32 0x3F800000#32 + scale d) + shift d

/-- A row times a matrix. -/
def dot {m n : ℕ} (x : Fin m → EReal) (w : Fin m → Fin n → EReal) (j : Fin n) : EReal := ∑ i, x i * w i j

end Cert.Rows

end
-- ==== Proof.OutProj.Formulas.lean ====
/-
  The formulas of the output projection, for a row and for the launch's arrays: the gated branches, the new latent stream, its
  modulated norm, and the query halves.
-/
module

public import proofs.«01_k».proof.Reference2Ideal
public import proofs.«01_k».proof.Proof.Rows
public import Idealize.ShloMosaic.Lib.Pointwise

@[expose] public section

noncomputable section

namespace Cert.OutProj

open Cert.Reference2Ideal Idealize.ShloMosaic Idealize.ShloMosaic.TcCoe Cert.Rows

/-- A row's three branches, each projected, gated and added. -/
def gated (att : Fin 512 → EReal) (four pool : Fin 256 → EReal) (g : Fin 3072 → EReal)
    (woa : Fin 512 → Fin 1024 → EReal) (wob woc : Fin 256 → Fin 1024 → EReal) (d : Fin 1024) : EReal :=
  g ⟨d.val, by omega⟩ * dot att woa d + g ⟨1024 + d.val, by omega⟩ * dot four wob d + g ⟨2048 + d.val, by omega⟩ * dot pool woc d

/-- A row of the new latent stream. -/
def stream (x : Fin 1024 → EReal) (m : Fin 6144 → EReal) (mixed : Fin 1024 → EReal) (wout : Fin 1024 → Fin 1024 → EReal)
    (d : Fin 1024) : EReal :=
  x d + m ⟨2048 + d.val, by omega⟩ * dot mixed wout d

/-- A row of the modulated norm. -/
def second (x n2 : Fin 1024 → EReal) (m : Fin 6144 → EReal) (d : Fin 1024) : EReal :=
  modulated x n2 (fun e => m ⟨3072 + e.val, by omega⟩) (fun e => m ⟨4096 + e.val, by omega⟩) d

-- The layer's arrays: tokens, the three branches, gates, modulation and weights.
variable (x0 : FVec Ideal S16384x1024 .f32) (x1 : FVec Ideal S16384x512 .bf16) (x2 x3 : FVec Ideal S16384x256 .bf16)
  (x4 : FVec Ideal S16384x3072 .bf16) (x5 : FVec Ideal S16x6144 .f32) (x6 : FVec Ideal S512x1024 .f32)
  (x7 x8 : FVec Ideal S256x1024 .f32) (x9 : FVec Ideal S1024x1024 .f32) (x10 : FVec Ideal S1024 .f32)
  (x11 : FVec Ideal S1024x2048 .f32)

/-- The modulation row of a token's batch. -/
def modRow (r : Fin 16384) : Fin 16 := ⟨r.val / 4096, by omega⟩

/-- A token's gated branches. -/
def tokMixed (r : Fin 16384) : Fin 1024 → EReal :=
  gated (fun i => x1 (ix2 r i)) (fun i => x2 (ix2 r i)) (fun i => x3 (ix2 r i)) (fun i => x4 (ix2 r i))
    (fun i j => x6 (ix2 i j)) (fun i j => x7 (ix2 i j)) (fun i j => x8 (ix2 i j))

/-- A token's new stream. -/
def tokStream (r : Fin 16384) : Fin 1024 → EReal :=
  stream (fun e => x0 (ix2 r e)) (fun e => x5 (ix2 (modRow r) e)) (tokMixed x1 x2 x3 x4 x6 x7 x8 r) (fun i j => x9 (ix2 i j))

/-- A token's modulated norm. -/
def tokSecond (r : Fin 16384) : Fin 1024 → EReal :=
  second (tokStream x0 x1 x2 x3 x4 x5 x6 x7 x8 x9 r) (fun e => x10 (ix1 e)) (fun e => x5 (ix2 (modRow r) e))

/-- A token's query halves, the 16 of them side by side. -/
def tokQuery (r : Fin 16384) : Fin 2048 → EReal :=
  dot (tokSecond x0 x1 x2 x3 x4 x5 x6 x7 x8 x9 x10 r) (fun i j => x11 (ix2 i j))

/-- Lane `d` of a token's query half `h`. -/
def tokHalf (h : Fin 16) (r : Fin 16384) (d : Fin 128) : EReal :=
  tokQuery x0 x1 x2 x3 x4 x5 x6 x7 x8 x9 x10 x11 r ⟨h.val * 128 + d.val, by omega⟩

end Cert.OutProj

end
-- ==== Proof.OutProj.Block.lean ====
/-
  What one grid point of the output projection stores: 256 rows of the new latent stream, of its modulated norm, and of the 16
  query halves of that.
-/
module

public import proofs.«01_k».proof.Proof.Gen.Kernel2Ideal.Frame
public import proofs.«01_k».proof.Proof.OutProj.Formulas
public import Idealize.ShloMosaic.Lib.Pointwise
public import Idealize.ShloMosaic.Lib.Pipeline.ValueKit

@[expose] public section

set_option maxRecDepth 16384

noncomputable section

namespace Cert.OutProj

open Cert.Kernel2Ideal Cert.Kernel2Ideal.Gen Idealize.ShloMosaic Idealize.ShloMosaic.TcCoe Cert.Rows

/-- The attention's projection. -/
theorem dot512 (a : FVec Ideal S256x512 .bf16) (w : FVec Ideal S512x1024 .bf16) (r : Fin 256) (d : Fin 1024) :
    (matmul dot_S256x512_S512x1024_S256x1024_1_0_0_1_n_n none a w (constant S256x1024 .f32 0x00000000#32) : FVec Ideal S256x1024 .f32) (ix2 r d)
      = dot (fun i => a (ix2 r i)) (fun i j => w (ix2 i j)) d := by
  unfold dot
  pointwise

/-- A narrow branch's projection. -/
theorem dot256 (a : FVec Ideal S256x256 .bf16) (w : FVec Ideal S256x1024 .bf16) (r : Fin 256) (d : Fin 1024) :
    (matmul dot_S256x256_S256x1024_S256x1024_1_0_0_1_n_n none a w (constant S256x1024 .f32 0x00000000#32) : FVec Ideal S256x1024 .f32) (ix2 r d)
      = dot (fun i => a (ix2 r i)) (fun i j => w (ix2 i j)) d := by
  unfold dot
  pointwise

/-- The projection of the mixed branches. -/
theorem dot1024 (a : FVec Ideal S256x1024 .bf16) (w : FVec Ideal S1024x1024 .bf16) (r : Fin 256) (d : Fin 1024) :
    (matmul dot_S256x1024_S1024x1024_S256x1024_1_0_0_1_n_n none a w (constant S256x1024 .f32 0x00000000#32) : FVec Ideal S256x1024 .f32) (ix2 r d)
      = dot (fun i => a (ix2 r i)) (fun i j => w (ix2 i j)) d := by
  unfold dot
  pointwise

/-- The projection onto the query halves. -/
theorem dot2048 (a : FVec Ideal S256x1024 .bf16) (w : FVec Ideal S1024x2048 .bf16) (r : Fin 256) (d : Fin 2048) :
    (matmul dot_S256x1024_S1024x2048_S256x2048_1_0_0_1_n_n none a w (constant S256x2048 .f32 0x00000000#32) : FVec Ideal S256x2048 .f32) (ix2 r d)
      = dot (fun i => a (ix2 r i)) (fun i j => w (ix2 i j)) d := by
  unfold dot
  pointwise

/-- The mixed branches through the output weights. -/
theorem pay4_apply (v2 : Vec Ideal S256x512 .bf16) (v3 : Vec Ideal S512x1024 .bf16) (v6 : Vec Ideal S256x256 .bf16)
    (v7 : Vec Ideal S256x1024 .bf16) (v10 : Vec Ideal S256x256 .bf16) (v11 v14 v17 v21 : Vec Ideal S256x1024 .bf16)
    (v26 : Vec Ideal S1024x1024 .bf16) (r : Fin 256) (d : Fin 1024) :
    k0_pay4 v2 v3 v6 v7 v10 v11 v14 v17 v21 v26 (ix2 r d)
      = dot (fun e => v14 (ix2 r e) * dot (fun i => v2 (ix2 r i)) (fun i j => v3 (ix2 i j)) e
          + v17 (ix2 r e) * dot (fun i => v6 (ix2 r i)) (fun i j => v7 (ix2 i j)) e
          + v21 (ix2 r e) * dot (fun i => v10 (ix2 r i)) (fun i j => v11 (ix2 i j)) e) (fun i j => v26 (ix2 i j)) d := by
  unfold k0_pay4
  simp only [dot1024, dot512, dot256, shapeCast_self]
  pointwise
  simp only [dot]

/-- The new stream. -/
theorem pay5_apply (v1 : FVec Ideal S1x6144 .f32) (v28 : FVec Ideal S256x1024 .f32) (v29 : Vec Ideal S256x1024 .f32)
    (r : Fin 256) (d : Fin 1024) :
    k0_pay5 v1 v28 v29 (ix2 r d) = v29 (ix2 r d) + v1 (ix2 0 ⟨2048 + d.val, by omega⟩) * v28 (ix2 r d) := by
  pointwise [k0_pay5]

/-- Its modulated norm. -/
theorem pay6_apply (v1 : FVec Ideal S1x6144 .f32) (v28 : FVec Ideal S256x1024 .f32) (v29 : Vec Ideal S256x1024 .f32)
    (v45 : Vec Ideal S1x1024 .f32) (r : Fin 256) (d : Fin 1024) :
    k0_pay6 v1 v28 v29 v45 (ix2 r d)
      = second (fun e => k0_pay5 v1 v28 v29 (ix2 r e)) (fun e => v45 (ix2 0 e)) (fun e => v1 (ix2 0 e)) d := by
  unfold k0_pay6 second modulated normed unit
  generalize k0_pay5 v1 v28 v29 = x
  pointwise

/-- The query halves, in one row. -/
theorem pay7_apply (v1 : FVec Ideal S1x6144 .f32) (v28 : FVec Ideal S256x1024 .f32) (v29 : Vec Ideal S256x1024 .f32)
    (v45 : Vec Ideal S1x1024 .f32) (v59 : Vec Ideal S1024x2048 .bf16) (r : Fin 256) (d : Fin 2048) :
    k0_pay7 v1 v28 v29 v45 v59 (ix2 r d)
      = dot (fun e => k0_pay6 v1 v28 v29 v45 (ix2 r e)) (fun i j => v59 (ix2 i j)) d := by
  unfold k0_pay7
  generalize k0_pay6 v1 v28 v29 v45 = x
  unfold dot
  pointwise

-- The blocks that a grid point reads.
variable (x0 : Vec Ideal S256x1024 .f32) (x1 : Vec Ideal S256x512 .bf16) (x2 x3 : Vec Ideal S256x256 .bf16)
  (x4 : Vec Ideal S256x3072 .bf16) (x5 : Vec Ideal S1x1x6144 .f32) (x6 : Vec Ideal S512x1024 .bf16)
  (x7 x8 : Vec Ideal S256x1024 .bf16) (x9 : Vec Ideal S1024x1024 .bf16) (x10 : Vec Ideal S1x1024 .f32)
  (x11 : Vec Ideal S1024x2048 .bf16)

/-- Row `r` of the new stream, from the blocks. -/
def blockStream (r : Fin 256) : Fin 1024 → EReal :=
  stream (fun e => x0 (ix2 r e)) (fun e => x5 (ix3 0 0 e))
    (gated (fun i => x1 (ix2 r i)) (fun i => x2 (ix2 r i)) (fun i => x3 (ix2 r i)) (fun i => x4 (ix2 r i))
      (fun i j => x6 (ix2 i j)) (fun i j => x7 (ix2 i j)) (fun i j => x8 (ix2 i j))) (fun i j => x9 (ix2 i j))

/-- Row `r` of its modulated norm. -/
def blockSecond (r : Fin 256) : Fin 1024 → EReal :=
  second (blockStream x0 x1 x2 x3 x4 x5 x6 x7 x8 x9 r) (fun e => x10 (ix2 0 e)) (fun e => x5 (ix3 0 0 e))

/-- The branches' projection, from the blocks. -/
theorem pay26_apply (r : Fin 256) (d : Fin 1024) :
    k0_pay26 x0 x1 x2 x3 x4 x5 x6 x7 x8 x9 x10 x11 (ix2 r d)
      = dot (gated (fun i => x1 (ix2 r i)) (fun i => x2 (ix2 r i)) (fun i => x3 (ix2 r i)) (fun i => x4 (ix2 r i))
          (fun i j => x6 (ix2 i j)) (fun i j => x7 (ix2 i j)) (fun i j => x8 (ix2 i j))) (fun i j => x9 (ix2 i j)) d := by
  unfold k0_pay26
  rw [pay4_apply]
  unfold gated
  pointwise

/-- The modulation row, from its block. -/
theorem pay25_apply (d : Fin 6144) : k0_pay25 x0 x1 x2 x3 x4 x5 x6 x7 x8 x9 x10 x11 (ix2 0 d) = x5 (ix3 0 0 d) := by
  unfold k0_pay25
  rw [View.ld_unit_lit]
  · pointwise [k0_pay3]
  · decide

/-- A row of the new stream, as the block stores it. -/
theorem out12_apply (r : Fin 256) (d : Fin 1024) :
    out0_12 x0 x1 x2 x3 x4 x5 x6 x7 x8 x9 x10 x11 (ix2 r d) = blockStream x0 x1 x2 x3 x4 x5 x6 x7 x8 x9 r d := by
  frame_out
  rw [pay5_apply, pay25_apply, pay26_apply]
  rfl

/-- A row of its modulated norm, as the block stores it. -/
theorem out13_apply (r : Fin 256) (d : Fin 1024) :
    out0_13 x0 x1 x2 x3 x4 x5 x6 x7 x8 x9 x10 x11 (ix2 r d) = blockSecond x0 x1 x2 x3 x4 x5 x6 x7 x8 x9 x10 r d := by
  frame_out
  rw [pay6_apply]
  simp only [pay5_apply, pay25_apply, pay26_apply]
  rfl

/-- A row of the query halves. -/
theorem pay27_apply (r : Fin 256) (d : Fin 2048) :
    k0_pay27 x0 x1 x2 x3 x4 x5 x6 x7 x8 x9 x10 x11 (ix2 r d)
      = dot (blockSecond x0 x1 x2 x3 x4 x5 x6 x7 x8 x9 x10 r) (fun i j => x11 (ix2 i j)) d := by
  unfold k0_pay27
  rw [pay7_apply]
  simp only [pay6_apply, pay5_apply, pay25_apply, pay26_apply]
  rw [View.ld_unit_lit, View.ld_unit_lit, View.ld_unit_lit]
  all_goals first | rfl | decide

/-- A 128-lane slice of the query halves, as a head's tile. -/
theorem tile_apply (v : FVec Ideal S256x2048 .f32) (o : ℕ) (ho : o + 128 ≤ 2048) (hs : S256x2048.Slices ![0, o] S256x128)
    (x : S1x256x128.Idx) (r : Fin 256) (d : Fin 2048) (hr : r.val = (x 1).val) (hd : d.val = o + (x 2).val) :
    (shapeCast S1x256x128 (truncf .bf16 (extractStridedSlice S256x128 ![0, o] v hs) bitsLt_bf16_f32 : FVec Ideal S256x128 .bf16)
      shapeCasts_S256x128_S1x256x128) x = v (ix2 r d) := by
  idx_vars x
  pointwise
  exact congrArg v (congrArg₂ ix2 (Fin.ext hr.symm) (Fin.ext hd.symm))

/-- A head's query half, as the block stores it. -/
theorem out14_apply (h : Fin 16) (r : Fin 256) (d : Fin 128) :
    out0_14 x0 x1 x2 x3 x4 x5 x6 x7 x8 x9 x10 x11 (ix3 h r d)
      = dot (blockSecond x0 x1 x2 x3 x4 x5 x6 x7 x8 x9 x10 r) (fun i j => x11 (ix2 i j)) ⟨h.val * 128 + d.val, by omega⟩ := by
  rw [← pay27_apply]
  canon_tiles x hx using cover0_14 ..
  all_goals
    refine tile_apply (k0_pay27 x0 x1 x2 x3 x4 x5 x6 x7 x8 x9 x10 x11) _ ?_ ?_ x r _ ?_ ?_
  all_goals first | decide | exact hx1 | skip
  all_goals
    simp only [show ix3 h r d 0 = h from rfl, show ix3 h r d 2 = d from rfl] at hx0 hx2
    simp only []
    omega

end Cert.OutProj

end
-- ==== Proof.OutProj.Array.lean ====
/-
  The arrays that the output projection leaves: row `r` of each is what the reference's formulas give for row `r` of the launch's
  arrays. Grid point `t` takes rows 256 t and up of the tokens, the modulation row of their batch, and the whole weights.
-/
module

public import proofs.«01_k».proof.Proof.OutProj.Block

@[expose] public section

set_option maxRecDepth 16384

noncomputable section

namespace Cert.OutProj

open Cert.Kernel2Ideal Cert.Kernel2Ideal.Gen Idealize.ShloMosaic Idealize.ShloMosaic.TcCoe Cert.Rows
open Idealize.ShloMosaic.Pipeline (Dat)

variable (m : (ℓ : Loc nD τ sig) → Buf (Elt Ideal) ℓ)

/-- Where each window's block lies at a grid point, in blocks. -/
theorem idx : ∀ t : Fin grid0.N,
    win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val / 16, 0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![(grid0.coords t 0).val, 0]
    ∧ win0_13.index t = ![(grid0.coords t 0).val, 0]
    ∧ win0_14.index t = ![0, (grid0.coords t 0).val, 0] := by
  decide +kernel

/-- The grid coordinate is below the grid's size. -/
theorem coords_lt : ∀ t : Fin grid0.N, (grid0.coords t 0).val < 64 := by
  decide +kernel

/-- Row `r` of a token block, in the array. -/
def tok (t : Fin grid0.N) (r : Fin 256) : Fin 16384 :=
  ⟨(grid0.coords t 0).val * 256 + r.val, by have := coords_lt t; omega⟩

/-- The modulation row of a token block. -/
def blkRow (t : Fin grid0.N) : Fin 16 := ⟨(grid0.coords t 0).val / 16, by have := coords_lt t; omega⟩

theorem modRow_tok (t : Fin grid0.N) (r : Fin 256) : modRow (tok t r) = blkRow t :=
  Fin.ext (by simp only [modRow, tok, blkRow]; omega)

theorem read0 (c : Dev nD) (t : Fin grid0.N) (r : Fin 256) (l : Fin 1024) :
    iblk m c 0 t (ix2 r l) = m ((c : Thread nD τ).loc main_arg0) (ix2 (tok t r) l) := by
  blk_ext! [iblk, V, idx t, tok]

theorem read1 (c : Dev nD) (t : Fin grid0.N) (r : Fin 256) (l : Fin 512) :
    iblk m c 1 t (ix2 r l) = m ((c : Thread nD τ).loc main_arg1) (ix2 (tok t r) l) := by
  blk_ext! [iblk, V, idx t, tok]

theorem read2 (c : Dev nD) (t : Fin grid0.N) (r : Fin 256) (l : Fin 256) :
    iblk m c 2 t (ix2 r l) = m ((c : Thread nD τ).loc main_arg2) (ix2 (tok t r) l) := by
  blk_ext! [iblk, V, idx t, tok]

theorem read3 (c : Dev nD) (t : Fin grid0.N) (r : Fin 256) (l : Fin 256) :
    iblk m c 3 t (ix2 r l) = m ((c : Thread nD τ).loc main_arg3) (ix2 (tok t r) l) := by
  blk_ext! [iblk, V, idx t, tok]

theorem read4 (c : Dev nD) (t : Fin grid0.N) (r : Fin 256) (l : Fin 3072) :
    iblk m c 4 t (ix2 r l) = m ((c : Thread nD τ).loc main_arg4) (ix2 (tok t r) l) := by
  blk_ext! [iblk, V, idx t, tok]

theorem read5 (c : Dev nD) (t : Fin grid0.N) (l : Fin 6144) :
    iblk m c 5 t (ix3 0 0 l) = m ((c : Thread nD τ).loc main_arg5) (ix2 (blkRow t) l) := by
  blk_ext! [iblk, V, idx t, blkRow]

theorem read6 (c : Dev nD) (t : Fin grid0.N) (r : Fin 512) (l : Fin 1024) :
    iblk m c 6 t (ix2 r l) = m ((c : Thread nD τ).loc main_arg6) (ix2 r l) := by
  blk_ext! [iblk, V, idx t]

theorem read7 (c : Dev nD) (t : Fin grid0.N) (r : Fin 256) (l : Fin 1024) :
    iblk m c 7 t (ix2 r l) = m ((c : Thread nD τ).loc main_arg7) (ix2 r l) := by
  blk_ext! [iblk, V, idx t]

theorem read8 (c : Dev nD) (t : Fin grid0.N) (r : Fin 256) (l : Fin 1024) :
    iblk m c 8 t (ix2 r l) = m ((c : Thread nD τ).loc main_arg8) (ix2 r l) := by
  blk_ext! [iblk, V, idx t]

theorem read9 (c : Dev nD) (t : Fin grid0.N) (r : Fin 1024) (l : Fin 1024) :
    iblk m c 9 t (ix2 r l) = m ((c : Thread nD τ).loc main_arg9) (ix2 r l) := by
  blk_ext! [iblk, V, idx t]

theorem read10 (c : Dev nD) (t : Fin grid0.N) (l : Fin 1024) :
    iblk m c 10 t (ix2 0 l) = m ((c : Thread nD τ).loc main_arg10) (ix1 l) := by
  blk_ext! [iblk, V, idx t]

theorem read11 (c : Dev nD) (t : Fin grid0.N) (r : Fin 1024) (l : Fin 2048) :
    iblk m c 11 t (ix2 r l) = m ((c : Thread nD τ).loc main_arg11) (ix2 r l) := by
  blk_ext! [iblk, V, idx t]

/-- A block's row of the stream is the arrays' at the token. -/
theorem blockStream_eq (c : Dev nD) (t : Fin grid0.N) (r : Fin 256) :
    blockStream (iblk m c 0 t) (iblk m c 1 t) (iblk m c 2 t) (iblk m c 3 t) (iblk m c 4 t) (iblk m c 5 t) (iblk m c 6 t) (iblk m c 7 t) (iblk m c 8 t) (iblk m c 9 t) r
      = tokStream (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (tok t r) := by
  unfold blockStream tokStream tokMixed
  rw [modRow_tok]
  simp only [read0, read1, read2, read3, read4, read5, read6, read7, read8, read9]

/-- A block's row of the modulated norm is the arrays' at the token. -/
theorem blockSecond_eq (c : Dev nD) (t : Fin grid0.N) (r : Fin 256) :
    blockSecond (iblk m c 0 t) (iblk m c 1 t) (iblk m c 2 t) (iblk m c 3 t) (iblk m c 4 t) (iblk m c 5 t) (iblk m c 6 t) (iblk m c 7 t) (iblk m c 8 t) (iblk m c 9 t) (iblk m c 10 t) r
      = tokSecond (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (tok t r) := by
  unfold blockSecond tokSecond
  rw [blockStream_eq, modRow_tok]
  simp only [read5, read10]

/-- Where an output block's element lies, in the array. -/
theorem place12 (t : Fin grid0.N) (y0 : Fin 256) (y1 : Fin 1024) :
    (((View.whole main_v7_0).slice (win0_12.rect t)).emb (ix2 y0 y1) : S16384x1024.Idx) = ix2 (tok t y0) y1 := by
  blk_ext [idx t, tok]

/-- Where an output block's element lies, in the array. -/
theorem place13 (t : Fin grid0.N) (y0 : Fin 256) (y1 : Fin 1024) :
    (((View.whole main_v7_1).slice (win0_13.rect t)).emb (ix2 y0 y1) : S16384x1024.Idx) = ix2 (tok t y0) y1 := by
  blk_ext [idx t, tok]

/-- Where an output block's element lies, in the array. -/
theorem place14 (t : Fin grid0.N) (y0 : Fin 16) (y1 : Fin 256) (y2 : Fin 128) :
    (((View.whole main_v7_2).slice (win0_14.rect t)).emb (ix3 y0 y1 y2) : S16x16384x128.Idx) = ix3 y0 (tok t y1) y2 := by
  blk_ext [idx t, tok]

/-- The array of the new stream after the run. -/
theorem final12 (c : Dev nD) : (dats m 0 c).arrAt 12 cfg0.N = fun i : S16384x1024.Idx =>
    tokStream (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (i 0) (i 1) := by
  refine (dats m 0 c).arrAt_eq_of_covers 12 _ (by decide +kernel) fun t hf y => ?_
  blk_simp
  rw [after0_12]
  idx_vars y
  rw [place12, out12_apply, blockStream_eq]
  rfl

/-- The array of the modulated norm after the run. -/
theorem final13 (c : Dev nD) : (dats m 0 c).arrAt 13 cfg0.N = fun i : S16384x1024.Idx =>
    tokSecond (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (i 0) (i 1) := by
  refine (dats m 0 c).arrAt_eq_of_covers 13 _ (by decide +kernel) fun t hf y => ?_
  blk_simp
  rw [after0_13]
  idx_vars y
  rw [place13, out13_apply, blockSecond_eq]
  rfl

/-- The array of the query halves after the run. -/
theorem final14 (c : Dev nD) : (dats m 0 c).arrAt 14 cfg0.N = fun i : S16x16384x128.Idx =>
    tokHalf (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11)) (i 0) (i 1) (i 2) := by
  refine (dats m 0 c).arrAt_eq_of_covers 14 _ (by decide +kernel) fun t hf y => ?_
  blk_simp
  rw [after0_14]
  idx_vars y
  rw [place14, out14_apply, blockSecond_eq]
  simp only [read11]
  rfl

end Cert.OutProj

end
-- ==== Proof.OutProj.Reference.lean ====
/-
  What the reference computes, at an index: the stream, its modulated norm and the query halves of token `s` of batch `b` are the
  formulas' at the flat arrays' row.
-/
module

public import proofs.«01_k».proof.Proof.Gen.Reference2Ideal.Read
public import proofs.«01_k».proof.Proof.OutProj.Formulas

@[expose] public section

set_option maxRecDepth 16384

noncomputable section

namespace Cert.OutProj

open Cert.Reference2Ideal Cert.Reference2Ideal.Gen Cert.Reference2Ideal.Read Idealize.ShloMosaic Idealize.ShloMosaic.TcCoe Cert.Rows

variable (x0 : FVec Ideal S16384x1024 .f32) (x1 : FVec Ideal S16384x512 .bf16) (x2 x3 : FVec Ideal S16384x256 .bf16)
  (x4 : FVec Ideal S16384x3072 .bf16) (x5 : FVec Ideal S16x6144 .f32) (x6 : FVec Ideal S512x1024 .f32)
  (x7 x8 : FVec Ideal S256x1024 .f32) (x9 : FVec Ideal S1024x1024 .f32) (x10 : FVec Ideal S1024 .f32)
  (x11 : FVec Ideal S1024x2048 .f32)

/-- The flat row of token `s` of batch `b`. -/
def row (b : Fin 4) (s : Fin 4096) : Fin 16384 := ⟨b.val * 4096 + s.val, by omega⟩

theorem modRow_row (b : Fin 4) (s : Fin 4096) : modRow (row b s) = ⟨b.val, by omega⟩ :=
  Fin.ext (by simp only [modRow, row]; omega)

/-- The attention branch, projected. -/
theorem ref_att (b : Fin 4) (s : Fin 4096) (d : Fin 1024) :
    val_main_v11 (F := Ideal) x1 x6 (ix3 b s d) = dot (fun i => x1 (ix2 (row b s) i)) (fun i j => x6 (ix2 i j)) d := by
  unfold dot row
  pointwise [val_main_v11, val_main_v10, val_main_v9]

/-- The Fourier branch, projected. -/
theorem ref_four (b : Fin 4) (s : Fin 4096) (d : Fin 1024) :
    val_main_v14 (F := Ideal) x2 x7 (ix3 b s d) = dot (fun i => x2 (ix2 (row b s) i)) (fun i j => x7 (ix2 i j)) d := by
  unfold dot row
  pointwise [val_main_v14, val_main_v13, val_main_v12]

/-- The pooled branch, projected. -/
theorem ref_pool (b : Fin 4) (s : Fin 4096) (d : Fin 1024) :
    val_main_v17 (F := Ideal) x3 x8 (ix3 b s d) = dot (fun i => x3 (ix2 (row b s) i)) (fun i j => x8 (ix2 i j)) d := by
  unfold dot row
  pointwise [val_main_v17, val_main_v16, val_main_v15]

/-- The three gates. -/
theorem ref_gates (b : Fin 4) (s : Fin 4096) (d : Fin 1024) :
    val_main_v20 (F := Ideal) x4 (ix3 b s d) = x4 (ix2 (row b s) ⟨d.val, by omega⟩)
    ∧ val_main_v21 (F := Ideal) x4 (ix3 b s d) = x4 (ix2 (row b s) ⟨1024 + d.val, by omega⟩)
    ∧ val_main_v22 (F := Ideal) x4 (ix3 b s d) = x4 (ix2 (row b s) ⟨2048 + d.val, by omega⟩) := by
  unfold row
  refine ⟨?_, ?_, ?_⟩
  · pointwise [val_main_v20, val_main_v19, val_main_v18]
  · pointwise [val_main_v21, val_main_v19, val_main_v18]
  · pointwise [val_main_v22, val_main_v19, val_main_v18]

/-- The gated branches. -/
theorem ref_mixed (b : Fin 4) (s : Fin 4096) (d : Fin 1024) :
    val_main_v27 (F := Ideal) x1 x2 x3 x4 x6 x7 x8 (ix3 b s d) = tokMixed x1 x2 x3 x4 x6 x7 x8 (row b s) d := by
  obtain ⟨e0, e1, e2⟩ := ref_gates x4 b s d
  rw [val_main_v27_apply, val_main_v25_apply, val_main_v26_apply, val_main_v23_apply, val_main_v24_apply,
    ref_att, ref_four, ref_pool, e0, e1, e2]
  rfl

/-- The gated branches through the output weights. -/
theorem ref_out (b : Fin 4) (s : Fin 4096) (d : Fin 1024) :
    val_main_v28 (F := Ideal) x1 x2 x3 x4 x6 x7 x8 x9 (ix3 b s d)
      = dot (tokMixed x1 x2 x3 x4 x6 x7 x8 (row b s)) (fun i j => x9 (ix2 i j)) d := by
  unfold val_main_v28 dot
  simp only [← ref_mixed]
  generalize val_main_v27 (F := Ideal) x1 x2 x3 x4 x6 x7 x8 = y
  pointwise

/-- The modulation's gate, shift and scale of a token. -/
theorem ref_mod (b : Fin 4) (s : Fin 4096) (d : Fin 1024) :
    val_main_v29 (F := Ideal) x5 (ix3 b s d) = x5 (ix2 (modRow (row b s)) ⟨2048 + d.val, by omega⟩)
    ∧ val_main_v49 (F := Ideal) x5 (ix3 b s d) = x5 (ix2 (modRow (row b s)) ⟨3072 + d.val, by omega⟩)
    ∧ val_main_v47 (F := Ideal) x5 (ix3 b s d)
      = Ideal.ofBits .f32 0x3F800000#32 + x5 (ix2 (modRow (row b s)) ⟨4096 + d.val, by omega⟩) := by
  rw [modRow_row]
  refine ⟨?_, ?_, ?_⟩
  · pointwise [val_main_v29, val_main_v5, val_main_v2, val_main_v1]
  · pointwise [val_main_v49, val_main_v6, val_main_v2, val_main_v1]
  · pointwise [val_main_v47, val_main_v46, val_main_v45, val_main_cst_2, val_main_v7, val_main_v2, val_main_v1]

/-- The new stream. -/
theorem ref_stream (b : Fin 4) (s : Fin 4096) (d : Fin 1024) :
    val_main_v31 (F := Ideal) x0 x1 x2 x3 x4 x5 x6 x7 x8 x9 (ix3 b s d)
      = tokStream x0 x1 x2 x3 x4 x5 x6 x7 x8 x9 (row b s) d := by
  have e : val_main_v0 (F := Ideal) x0 (ix3 b s d) = x0 (ix2 (row b s) d) := by
    unfold row
    pointwise [val_main_v0]
  rw [val_main_v31_apply, val_main_v30_apply, ref_out, (ref_mod x5 b s d).1, e]
  rfl

/-- A normed row of the stream. -/
theorem ref_normed (b : Fin 4) (s : Fin 4096) (d : Fin 1024) :
    val_main_v44 (F := Ideal) x0 x1 x2 x3 x4 x5 x6 x7 x8 x9 x10 (ix3 b s d)
      = normed 0x44800000#32 (fun e => val_main_v31 (F := Ideal) x0 x1 x2 x3 x4 x5 x6 x7 x8 x9 (ix3 b s e)) (fun e => x10 (ix1 e)) d := by
  unfold val_main_v44 val_main_v41 val_main_v40 val_main_v39 val_main_v38 val_main_v36 val_main_v34 val_main_v33 val_main_v32
    normed unit
  generalize val_main_v31 (F := Ideal) x0 x1 x2 x3 x4 x5 x6 x7 x8 x9 = y
  pointwise [val_main_v43, val_main_v42, val_main_v37, val_main_cst_1, val_main_v35, val_main_cst_0, val_main_cst]

/-- The modulated norm. -/
theorem ref_second (b : Fin 4) (s : Fin 4096) (d : Fin 1024) :
    val_main_v50 (F := Ideal) x0 x1 x2 x3 x4 x5 x6 x7 x8 x9 x10 (ix3 b s d)
      = tokSecond x0 x1 x2 x3 x4 x5 x6 x7 x8 x9 x10 (row b s) d := by
  obtain ⟨-, e1, e2⟩ := ref_mod x5 b s d
  rw [val_main_v50_apply, val_main_v48_apply, ref_normed, e1, e2]
  simp only [ref_stream]
  rfl

/-- The query halves of a token. -/
theorem ref_query (b : Fin 4) (s : Fin 4096) (d : Fin 2048) :
    val_main_v51 (F := Ideal) x0 x1 x2 x3 x4 x5 x6 x7 x8 x9 x10 x11 (ix3 b s d)
      = tokQuery x0 x1 x2 x3 x4 x5 x6 x7 x8 x9 x10 x11 (row b s) d := by
  unfold val_main_v51 tokQuery dot
  simp only [← ref_second]
  generalize val_main_v50 (F := Ideal) x0 x1 x2 x3 x4 x5 x6 x7 x8 x9 x10 = y
  pointwise

/-- A flat row as a token of a batch. -/
theorem row_eq (r : Fin 16384) : row ⟨r.val / 4096, by omega⟩ ⟨r.val % 4096, by omega⟩ = r :=
  Fin.ext (Nat.div_add_mod' _ _)

/-- The first result. -/
theorem ref_result0 (r : Fin 16384) (d : Fin 1024) :
    val_main_v53 (F := Ideal) x0 x1 x2 x3 x4 x5 x6 x7 x8 x9 (ix2 r d) = tokStream x0 x1 x2 x3 x4 x5 x6 x7 x8 x9 r d := by
  have h := ref_stream x0 x1 x2 x3 x4 x5 x6 x7 x8 x9 ⟨r.val / 4096, by omega⟩ ⟨r.val % 4096, by omega⟩ d
  rw [row_eq] at h
  rw [← h]
  unfold val_main_v53
  generalize val_main_v31 (F := Ideal) x0 x1 x2 x3 x4 x5 x6 x7 x8 x9 = y
  pointwise

/-- The second result. -/
theorem ref_result1 (r : Fin 16384) (d : Fin 1024) :
    val_main_v54 (F := Ideal) x0 x1 x2 x3 x4 x5 x6 x7 x8 x9 x10 (ix2 r d) = tokSecond x0 x1 x2 x3 x4 x5 x6 x7 x8 x9 x10 r d := by
  have h := ref_second x0 x1 x2 x3 x4 x5 x6 x7 x8 x9 x10 ⟨r.val / 4096, by omega⟩ ⟨r.val % 4096, by omega⟩ d
  rw [row_eq] at h
  rw [← h]
  unfold val_main_v54
  generalize val_main_v50 (F := Ideal) x0 x1 x2 x3 x4 x5 x6 x7 x8 x9 x10 = y
  pointwise

/-- The third result. -/
theorem ref_result2 (h : Fin 16) (r : Fin 16384) (d : Fin 128) :
    val_main_v56 (F := Ideal) x0 x1 x2 x3 x4 x5 x6 x7 x8 x9 x10 x11 (ix3 h r d)
      = tokHalf x0 x1 x2 x3 x4 x5 x6 x7 x8 x9 x10 x11 h r d := by
  unfold tokHalf
  have e := ref_query x0 x1 x2 x3 x4 x5 x6 x7 x8 x9 x10 x11 ⟨r.val / 4096, by omega⟩ ⟨r.val % 4096, by omega⟩ ⟨h.val * 128 + d.val, by omega⟩
  rw [row_eq] at e
  rw [← e]
  unfold val_main_v56 val_main_v55 val_main_v52
  generalize val_main_v51 (F := Ideal) x0 x1 x2 x3 x4 x5 x6 x7 x8 x9 x10 x11 = y
  pointwise

end Cert.OutProj

end
-- ==== Proof.OutProj.Claim.lean ====
/-
  The claims about the output projection: the frame of the reference, and the value claim, that the kernel's three arrays and the
  reference's are the same arrays of extended reals.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.OutProj.Array
public import proofs.«01_k».proof.Proof.OutProj.Reference

@[expose] public section

set_option maxRecDepth 16384

noncomputable section

namespace Cert.OutProj

open Idealize.ShloMosaic Idealize.SL.Sem

/-- The reference's frame, with every counter at zero at the end. -/
theorem frame_ri : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The reference's first array. -/
theorem ref_result0_array (x0 : FVec Ideal Cert.Reference2Ideal.S16384x1024 .f32) (x1 : FVec Ideal Cert.Reference2Ideal.S16384x512 .bf16)
    (x2 x3 : FVec Ideal Cert.Reference2Ideal.S16384x256 .bf16) (x4 : FVec Ideal Cert.Reference2Ideal.S16384x3072 .bf16)
    (x5 : FVec Ideal Cert.Reference2Ideal.S16x6144 .f32) (x6 : FVec Ideal Cert.Reference2Ideal.S512x1024 .f32)
    (x7 x8 : FVec Ideal Cert.Reference2Ideal.S256x1024 .f32) (x9 : FVec Ideal Cert.Reference2Ideal.S1024x1024 .f32) :
    Cert.Reference2Ideal.Read.val_main_v53 (F := Ideal) x0 x1 x2 x3 x4 x5 x6 x7 x8 x9
      = fun i : Cert.Reference2Ideal.S16384x1024.Idx => tokStream x0 x1 x2 x3 x4 x5 x6 x7 x8 x9 (i 0) (i 1) := by
  funext i
  idx_vars i
  exact ref_result0 x0 x1 x2 x3 x4 x5 x6 x7 x8 x9 i0 i1

/-- The reference's second array. -/
theorem ref_result1_array (x0 : FVec Ideal Cert.Reference2Ideal.S16384x1024 .f32) (x1 : FVec Ideal Cert.Reference2Ideal.S16384x512 .bf16)
    (x2 x3 : FVec Ideal Cert.Reference2Ideal.S16384x256 .bf16) (x4 : FVec Ideal Cert.Reference2Ideal.S16384x3072 .bf16)
    (x5 : FVec Ideal Cert.Reference2Ideal.S16x6144 .f32) (x6 : FVec Ideal Cert.Reference2Ideal.S512x1024 .f32)
    (x7 x8 : FVec Ideal Cert.Reference2Ideal.S256x1024 .f32) (x9 : FVec Ideal Cert.Reference2Ideal.S1024x1024 .f32) (x10 : FVec Ideal Cert.Reference2Ideal.S1024 .f32) :
    Cert.Reference2Ideal.Read.val_main_v54 (F := Ideal) x0 x1 x2 x3 x4 x5 x6 x7 x8 x9 x10
      = fun i : Cert.Reference2Ideal.S16384x1024.Idx => tokSecond x0 x1 x2 x3 x4 x5 x6 x7 x8 x9 x10 (i 0) (i 1) := by
  funext i
  idx_vars i
  exact ref_result1 x0 x1 x2 x3 x4 x5 x6 x7 x8 x9 x10 i0 i1

/-- The reference's third array. -/
theorem ref_result2_array (x0 : FVec Ideal Cert.Reference2Ideal.S16384x1024 .f32) (x1 : FVec Ideal Cert.Reference2Ideal.S16384x512 .bf16)
    (x2 x3 : FVec Ideal Cert.Reference2Ideal.S16384x256 .bf16) (x4 : FVec Ideal Cert.Reference2Ideal.S16384x3072 .bf16)
    (x5 : FVec Ideal Cert.Reference2Ideal.S16x6144 .f32) (x6 : FVec Ideal Cert.Reference2Ideal.S512x1024 .f32)
    (x7 x8 : FVec Ideal Cert.Reference2Ideal.S256x1024 .f32) (x9 : FVec Ideal Cert.Reference2Ideal.S1024x1024 .f32) (x10 : FVec Ideal Cert.Reference2Ideal.S1024 .f32)
    (x11 : FVec Ideal Cert.Reference2Ideal.S1024x2048 .f32) :
    Cert.Reference2Ideal.Read.val_main_v56 (F := Ideal) x0 x1 x2 x3 x4 x5 x6 x7 x8 x9 x10 x11
      = fun i : Cert.Reference2Ideal.S16x16384x128.Idx => tokHalf x0 x1 x2 x3 x4 x5 x6 x7 x8 x9 x10 x11 (i 0) (i 1) (i 2) := by
  funext i
  idx_vars i
  exact ref_result2 x0 x1 x2 x3 x4 x5 x6 x7 x8 x9 x10 x11 i0 i1 i2

/-- The value claim. -/
theorem algebraic : Cert.algebraic_Kernel2Ideal_Reference2Ideal := fun m g m' g' _ hag =>
  ⟨fun c => fun i : Cert.Kernel2Ideal.S16384x1024.Idx => tokStream
        (m (c.tc.loc Cert.Kernel2Ideal.main_arg0)) (m (c.tc.loc Cert.Kernel2Ideal.main_arg1)) (m (c.tc.loc Cert.Kernel2Ideal.main_arg2))
        (m (c.tc.loc Cert.Kernel2Ideal.main_arg3)) (m (c.tc.loc Cert.Kernel2Ideal.main_arg4)) (m (c.tc.loc Cert.Kernel2Ideal.main_arg5))
        (m (c.tc.loc Cert.Kernel2Ideal.main_arg6)) (m (c.tc.loc Cert.Kernel2Ideal.main_arg7)) (m (c.tc.loc Cert.Kernel2Ideal.main_arg8))
        (m (c.tc.loc Cert.Kernel2Ideal.main_arg9)) (i 0) (i 1),
    fun c => fun i : Cert.Kernel2Ideal.S16384x1024.Idx => tokSecond
        (m (c.tc.loc Cert.Kernel2Ideal.main_arg0)) (m (c.tc.loc Cert.Kernel2Ideal.main_arg1)) (m (c.tc.loc Cert.Kernel2Ideal.main_arg2))
        (m (c.tc.loc Cert.Kernel2Ideal.main_arg3)) (m (c.tc.loc Cert.Kernel2Ideal.main_arg4)) (m (c.tc.loc Cert.Kernel2Ideal.main_arg5))
        (m (c.tc.loc Cert.Kernel2Ideal.main_arg6)) (m (c.tc.loc Cert.Kernel2Ideal.main_arg7)) (m (c.tc.loc Cert.Kernel2Ideal.main_arg8))
        (m (c.tc.loc Cert.Kernel2Ideal.main_arg9)) (m (c.tc.loc Cert.Kernel2Ideal.main_arg10)) (i 0) (i 1),
    fun c => fun i : Cert.Kernel2Ideal.S16x16384x128.Idx => tokHalf
        (m (c.tc.loc Cert.Kernel2Ideal.main_arg0)) (m (c.tc.loc Cert.Kernel2Ideal.main_arg1)) (m (c.tc.loc Cert.Kernel2Ideal.main_arg2))
        (m (c.tc.loc Cert.Kernel2Ideal.main_arg3)) (m (c.tc.loc Cert.Kernel2Ideal.main_arg4)) (m (c.tc.loc Cert.Kernel2Ideal.main_arg5))
        (m (c.tc.loc Cert.Kernel2Ideal.main_arg6)) (m (c.tc.loc Cert.Kernel2Ideal.main_arg7)) (m (c.tc.loc Cert.Kernel2Ideal.main_arg8))
        (m (c.tc.loc Cert.Kernel2Ideal.main_arg9)) (m (c.tc.loc Cert.Kernel2Ideal.main_arg10)) (m (c.tc.loc Cert.Kernel2Ideal.main_arg11)) (i 0) (i 1) (i 2),
    (θ_run Cert.Kernel2Ideal.defs _ _).mono (fun _ h c => ⟨((h.1 c).1 12).trans (final12 m c), ((h.1 c).1 13).trans (final13 m c),
        ((h.1 c).1 14).trans (final14 m c), h.2 c⟩)
      (θ_run_and (Cert.Kernel2Ideal.Gen.run_main (F := Ideal) m g) (Cert.Kernel2Ideal.Gen.unchanged (F := Ideal) m g)),
    (θ_run Cert.Reference2Ideal.defs _ _).mono (fun _ h c => ⟨by
        obtain ⟨e0, e1, e2, e3, e4, e5, e6, e7, e8, e9, e10, e11⟩ := hag c
        refine (h c).1.trans ?_
        rw [Cert.Reference2Ideal.Read.val_main_v53_eq, e0, e1, e2, e3, e4, e5, e6, e7, e8, e9]
        exact ref_result0_array _ _ _ _ _ _ _ _ _ _, by
        obtain ⟨e0, e1, e2, e3, e4, e5, e6, e7, e8, e9, e10, e11⟩ := hag c
        refine (h c).2.1.trans ?_
        rw [Cert.Reference2Ideal.Read.val_main_v54_eq, e0, e1, e2, e3, e4, e5, e6, e7, e8, e9, e10]
        exact ref_result1_array _ _ _ _ _ _ _ _ _ _ _, by
        obtain ⟨e0, e1, e2, e3, e4, e5, e6, e7, e8, e9, e10, e11⟩ := hag c
        refine (h c).2.2.1.trans ?_
        rw [Cert.Reference2Ideal.Read.val_main_v56_eq, e0, e1, e2, e3, e4, e5, e6, e7, e8, e9, e10, e11]
        exact ref_result2_array _ _ _ _ _ _ _ _ _ _ _ _, (h c).2.2.2⟩)
      (Cert.Reference2Ideal.Value.run (F := Ideal) m' g')⟩

end Cert.OutProj

end
-- ==== Proof.InProj.Formulas.lean ====
/-
  The input projection of a token, as functions of its row: the modulated norm, its projections, and the latent rows of queries and
  keys.
-/
module

public import proofs.«01_k».proof.Proof.Rows

@[expose] public section

noncomputable section

namespace Cert.InProj

open Idealize.ShloMosaic Cert.Rows

/-- The modulated norm of a token's row: lanes 0 to 1024 of its modulation row shift, and lanes 1024 to 2048 scale. -/
def hidden (x g : Fin 1024 → EReal) (md : Fin 6144 → EReal) : Fin 1024 → EReal :=
  modulated x g (fun e => md ⟨e.val, by omega⟩) (fun e => md ⟨1024 + e.val, by omega⟩)

/-- The normed latent row of the queries: `z` holds it in its first 256 lanes. -/
def latentQ {n : ℕ} (hn : 384 ≤ n) (z : Fin n → EReal) (g : Fin 256 → EReal) : Fin 256 → EReal :=
  normed 0x43800000#32 (fun e => z ⟨e.val, by omega⟩) g

/-- The normed latent row of the keys and values: `z` holds it in lanes 256 to 384. -/
def latentKV {n : ℕ} (hn : 384 ≤ n) (z : Fin n → EReal) (g : Fin 128 → EReal) : Fin 128 → EReal :=
  normed 0x43000000#32 (fun e => z ⟨256 + e.val, by omega⟩) g

end Cert.InProj

end
-- ==== Proof.InProj.Host.lean ====
/-
  The position tables of the input projection: the whole numbers of the host code.
-/
module

public import proofs.«01_k».proof.Proof.InProj.Formulas
public import proofs.«01_k».proof.Proof.Gen.Kernel3Ideal.Frame
public import Idealize.ShloMosaic.Lib.Pointwise
public import Idealize.ShloMosaic.Lib.Pipeline.ValueKit
public import Idealize.ShloMosaic.Lib.StableHlo.ReadAt

@[expose] public section

set_option maxRecDepth 16384

noncomputable section

namespace Cert.InProj

open Cert.Kernel3Ideal Cert.Kernel3Ideal.Gen Idealize.ShloMosaic Idealize.ShloMosaic.TcCoe Cert.Rows

variable (m : (ℓ : Loc nD τ sig) → Buf (Elt Ideal) ℓ)

/-- The contents at the launch's start, after the host's operations in one line. -/
theorem entry (c : Dev nD) (b : Ref sig .tc) :
    V m c b = StableHlo.after (hostOps0 ++ hostOps0_1 ++ hostOps0_2 ++ hostOps0_3 ++ hostOps0_4 ++ hostOps0_5 ++ hostOps0_6)
      (fun b => m (c, b)) (Proc.devRef .tc b) := by
  simp only [V, List.flatten_cons, List.flatten_nil, List.append_nil, List.append_assoc]

/-- The sign of a word. -/
def sgn (p : BitVec 32) : BitVec 32 := if p = 0 then 0 else if p.msb then -1 else 1

/-- The quotient rounded down, as the host code takes it. -/
def floorQ (p n : BitVec 32) : BitVec 32 :=
  Scalar.select (IntOp.andi (IntOp.cmpi .ne (sgn p) (sgn n)) (IntOp.cmpi .ne (IntOp.remsi .host p n) 0#32))
    (IntOp.subi (IntOp.divsi .host p n) 1#32) (IntOp.divsi .host p n)

/-- The divisor, one in place of zero. -/
def modulus (n : BitVec 32) : BitVec 32 := Scalar.select (IntOp.cmpi .eq n 0#32) 1#32 n

/-- The remainder with the divisor's sign, as the host code takes it. -/
def floorR (p n : BitVec 32) : BitVec 32 :=
  Scalar.select
    (IntOp.andi
      (IntOp.cmpi .ne (IntOp.cmpi .slt (IntOp.remsi .host p (modulus n)) 0#32) (IntOp.cmpi .slt (modulus n) 0#32))
      (IntOp.cmpi .ne (IntOp.remsi .host p (modulus n)) 0#32))
    (IntOp.addi (IntOp.remsi .host p (modulus n)) (modulus n)) (IntOp.remsi .host p (modulus n))

/-- The row of a position in the grid of patches. -/
theorem floorQ_64 : ∀ s : Fin 4096, floorQ (BitVec.ofNat 32 s.val) 64#32 = BitVec.ofNat 32 (s.val / 64) := by
  decide +kernel

/-- The column of a position in the grid of patches. -/
theorem floorR_64 : ∀ s : Fin 4096, floorR (BitVec.ofNat 32 s.val) 64#32 = BitVec.ofNat 32 (s.val % 64) := by
  decide +kernel

/-- The row numbers that the host code leaves. -/
theorem rows_apply (c : Dev nD) (s : Fin 4096) :
    (V m c main_v73 : S4096.Idx → BitVec 32) (ix1 s) = BitVec.ofNat 32 (s.val / 64) := by
  rw [entry, ← floorQ_64]
  after_reads_at
  rfl

/-- The column numbers that the host code leaves. -/
theorem cols_apply (c : Dev nD) (s : Fin 4096) :
    (V m c main_v80 : S4096.Idx → BitVec 32) (ix1 s) = BitVec.ofNat 32 (s.val % 64) := by
  rw [entry, ← floorR_64]
  after_reads_at
  rfl

/-- The products of the channel transform, reduced, that the host code leaves. -/
theorem twiddle_apply (c : Dev nD) (j k : Fin 256) :
    (V m c main_v42 : S256x256.Idx → BitVec 32) (ix2 j k)
      = floorR (IntOp.muli (BitVec.ofNat 32 j.val) (BitVec.ofNat 32 k.val)) 256#32 := by
  rw [entry]
  after_reads_at
  rfl

end Cert.InProj

end
-- ==== Proof.InProj.Tables.lean ====
/-
  The rotary tables and the channel transform's table of the input projection, read off the host's
  operations.
-/
module

public import proofs.«01_k».proof.Proof.InProj.Host

@[expose] public section

set_option maxRecDepth 16384

noncomputable section

namespace Cert.InProj

open Cert.Kernel3Ideal Cert.Kernel3Ideal.Gen Idealize.ShloMosaic Idealize.ShloMosaic.TcCoe Cert.Rows

variable (m : (ℓ : Loc nD τ sig) → Buf (Elt Ideal) ℓ)

/-- The rotary frequency of a pair. -/
def invFreq (f : Fin 8) : EReal :=
  Ideal.pow (Ideal.ofBits .f32 0x461C4000#32)
    (Ideal.div (-(Ideal.ofBits .f32 0x40000000#32 * FloatOps.sitofp (F := Ideal) .f32 (BitVec.ofNat 32 f.val)))
      (Ideal.ofBits .f32 0x41800000#32))

/-- A pair's angle at a place along one axis of the grid of patches. -/
def angle (n : ℕ) (f : Fin 8) : EReal := FloatOps.sitofp (F := Ideal) .f32 (BitVec.ofNat 32 n) * invFreq f

/-- The angle of a rotary lane at a position: by rows in the first half, by columns in the second. -/
def laneAngle (s : ℕ) (l : Fin 32) : EReal :=
  if l.val < 16 then angle (s / 64) ⟨l.val % 8, by omega⟩ else angle (s % 64) ⟨l.val % 8, by omega⟩

/-- The contents before the host's last group of operations, which lays the rotary tables out. -/
@[irreducible] def mid (c : Dev nD) : Valuation τ sig (Elt Ideal) :=
  StableHlo.after (hostOps0 ++ hostOps0_1 ++ hostOps0_2 ++ hostOps0_3 ++ hostOps0_4 ++ hostOps0_5) (fun b => m (c, b))

/-- The contents at the launch's start, after the last group of operations. -/
theorem entry_mid (c : Dev nD) (b : Ref sig .tc) :
    V m c b = StableHlo.after hostOps0_6 (mid m c) (Proc.devRef .tc b) := by
  rw [entry, StableHlo.after_append, mid]

/-- The angles by rows that the host code leaves. -/
theorem mid_rowAngle (c : Dev nD) (s : Fin 4096) (f : Fin 8) :
    (mid m c main_v79 : S4096x8.Idx → EReal) (ix2 s f) = angle (s.val / 64) f := by
  rw [mid, angle, ← floorQ_64]
  after_reads_at
  exact congrArg₂ (fun w y : EReal => w * y) (congrArg (FloatOps.sitofp (F := Ideal) .f32) rfl) rfl

/-- The column numbers that the host code leaves. -/
theorem mid_col (c : Dev nD) (s : Fin 4096) :
    (mid m c main_v80 : S4096.Idx → BitVec 32) (ix1 s) = BitVec.ofNat 32 (s.val % 64) := by
  rw [mid, ← floorR_64]
  after_reads_at
  rfl

/-- The rotary frequencies that the host code leaves. -/
theorem mid_freq (c : Dev nD) (f : Fin 8) :
    (mid m c main_v72 : S8.Idx → EReal) (ix1 f) = invFreq f := by
  rw [mid]
  after_reads_at
  rfl

/-- A rotary lane's angle, in its first half. -/
theorem lane_row (c : Dev nD) (s : Fin 4096) (l : Fin 32) (f : Fin 8) (hl : l.val < 16) (hf : l.val % 8 = f.val) :
    (mid m c (Proc.tc.devRef main_v79) : S4096x8.Idx → EReal) (ix2 s f) = laneAngle s.val l := by
  rw [mid_rowAngle, laneAngle, if_pos hl]
  exact congrArg _ (Fin.ext hf.symm)

/-- A rotary lane's angle, in its second half. -/
theorem lane_col (c : Dev nD) (s : Fin 4096) (l : Fin 32) (f : Fin 8) (hl : ¬ l.val < 16) (hf : l.val % 8 = f.val) :
    FloatOps.sitofp (F := Ideal) .f32 ((mid m c (Proc.tc.devRef main_v80) : S4096.Idx → BitVec 32) (ix1 s))
      * (mid m c (Proc.tc.devRef main_v72) : S8.Idx → EReal) (ix1 f) = laneAngle s.val l := by
  rw [mid_col, mid_freq, laneAngle, if_neg hl, show (⟨l.val % 8, by omega⟩ : Fin 8) = f from Fin.ext hf]
  rfl

/-- The scale of the queries. -/
def qScale : EReal := Ideal.ofBits .f32 1037108716#32

/-- A table of the 128 lanes: one value in the first 64, a function of the angle in the 32 rotary ones,
    zero in the rest. -/
def table (a : EReal) (fn : EReal → EReal) (s : ℕ) (l : Fin 128) : EReal :=
  if l.val < 64 then a
  else if h : l.val < 96 then fn (laneAngle s ⟨l.val - 64, by omega⟩)
  else 0

/-- The zeros before the rotary lanes. -/
theorem mid_zeros (c : Dev nD) (s : Fin 4096) (l : Fin 64) :
    (mid m c (Proc.tc.devRef main_v59) : S4096x64.Idx → EReal) (ix2 s l) = (0 : EReal) := by
  rw [mid]
  after_reads_at

/-- The zeros after the rotary lanes. -/
theorem mid_pad (c : Dev nD) (s : Fin 4096) (l : Fin 32) :
    (mid m c (Proc.tc.devRef main_v60) : S4096x32.Idx → EReal) (ix2 s l) = (0 : EReal) := by
  rw [mid]
  after_reads_at

/-- The ones before the rotary lanes. -/
theorem mid_ones (c : Dev nD) (s : Fin 4096) (l : Fin 64) :
    (mid m c (Proc.tc.devRef main_v61) : S4096x64.Idx → EReal) (ix2 s l) = (1 : EReal) := by
  rw [mid]
  after_reads_at
  try simp [Ideal.ofBits, Ideal.ieee]

set_option maxHeartbeats 1000000 in
/-- The keys' cosines that the host code leaves. -/
theorem cosKeys_apply (c : Dev nD) (s : Fin 4096) (l : Fin 128) :
    (V m c main_v99 : S4096x128.Idx → EReal) (ix2 s l) = table 0 Ideal.cos s.val l := by
  rw [entry_mid]
  after_reads_at
  unfold table
  split_ifs
  all_goals try omega
  all_goals try after_reads_at
  all_goals try split_ifs
  all_goals try after_reads_at
  all_goals try omega
  all_goals first
    | (rw [dif_pos (show l.val < 96 by omega)]
       first
         | exact congrArg Ideal.cos (lane_row m c s ⟨l.val - 64, by omega⟩ _ (by dsimp only; omega) (by dsimp only; omega))
         | exact congrArg Ideal.cos (lane_col m c s ⟨l.val - 64, by omega⟩ _ (by dsimp only; omega) (by dsimp only; omega)))
    | (rw [dif_neg (show ¬ l.val < 96 by omega)]
       exact mid_pad m c s _)
    | exact mid_zeros m c s _

set_option maxHeartbeats 1000000 in
/-- The keys' sines that the host code leaves. -/
theorem sinKeys_apply (c : Dev nD) (s : Fin 4096) (l : Fin 128) :
    (V m c main_v100 : S4096x128.Idx → EReal) (ix2 s l) = table 0 Ideal.sin s.val l := by
  rw [entry_mid]
  after_reads_at
  unfold table
  split_ifs
  all_goals try omega
  all_goals try after_reads_at
  all_goals try split_ifs
  all_goals try after_reads_at
  all_goals try omega
  all_goals first
    | (rw [dif_pos (show l.val < 96 by omega)]
       first
         | exact congrArg Ideal.sin (lane_row m c s ⟨l.val - 64, by omega⟩ _ (by dsimp only; omega) (by dsimp only; omega))
         | exact congrArg Ideal.sin (lane_col m c s ⟨l.val - 64, by omega⟩ _ (by dsimp only; omega) (by dsimp only; omega)))
    | (rw [dif_neg (show ¬ l.val < 96 by omega)]
       exact mid_pad m c s _)
    | exact mid_zeros m c s _

set_option maxHeartbeats 1000000 in
/-- The queries' cosines that the host code leaves, scaled. -/
theorem cosQueries_apply (c : Dev nD) (s : Fin 4096) (l : Fin 128) :
    (V m c main_v95 : S4096x128.Idx → EReal) (ix2 s l) = table 1 Ideal.cos s.val l * qScale := by
  rw [entry_mid]
  after_reads_at
  unfold table
  split_ifs
  all_goals try omega
  all_goals try after_reads_at
  all_goals try split_ifs
  all_goals try after_reads_at
  all_goals try omega
  all_goals first
    | (rw [dif_pos (show l.val < 96 by omega)]
       first
         | exact congrArg (fun w : EReal => w * qScale) (congrArg Ideal.cos (lane_row m c s ⟨l.val - 64, by omega⟩ _ (by dsimp only; omega) (by dsimp only; omega)))
         | exact congrArg (fun w : EReal => w * qScale) (congrArg Ideal.cos (lane_col m c s ⟨l.val - 64, by omega⟩ _ (by dsimp only; omega) (by dsimp only; omega))))
    | (rw [dif_neg (show ¬ l.val < 96 by omega)]
       exact congrArg (fun w : EReal => w * qScale) (mid_pad m c s _))
    | exact (congrArg (fun w : EReal => w * qScale) (mid_ones m c s _)).trans (one_mul _)

set_option maxHeartbeats 1000000 in
/-- The queries' sines that the host code leaves, scaled. -/
theorem sinQueries_apply (c : Dev nD) (s : Fin 4096) (l : Fin 128) :
    (V m c main_v98 : S4096x128.Idx → EReal) (ix2 s l) = table 0 Ideal.sin s.val l * qScale := by
  rw [entry_mid]
  after_reads_at
  unfold table
  split_ifs
  all_goals try omega
  all_goals try after_reads_at
  all_goals try split_ifs
  all_goals try after_reads_at
  all_goals try omega
  all_goals first
    | (rw [dif_pos (show l.val < 96 by omega)]
       first
         | exact congrArg (fun w : EReal => w * qScale) (congrArg Ideal.sin (lane_row m c s ⟨l.val - 64, by omega⟩ _ (by dsimp only; omega) (by dsimp only; omega)))
         | exact congrArg (fun w : EReal => w * qScale) (congrArg Ideal.sin (lane_col m c s ⟨l.val - 64, by omega⟩ _ (by dsimp only; omega) (by dsimp only; omega))))
    | (rw [dif_neg (show ¬ l.val < 96 by omega)]
       exact congrArg (fun w : EReal => w * qScale) (mid_pad m c s _))
    | exact congrArg (fun w : EReal => w * qScale) (mid_zeros m c s _)

end Cert.InProj

end
-- ==== Proof.InProj.Weights.lean ====
/-
  The weights of the input projection as the host code lays them out, and the channel transform's table.
-/
module

public import proofs.«01_k».proof.Proof.InProj.Host

@[expose] public section

set_option maxRecDepth 16384

noncomputable section

namespace Cert.InProj

open Cert.Kernel3Ideal Cert.Kernel3Ideal.Gen Idealize.ShloMosaic Idealize.ShloMosaic.TcCoe Cert.Rows

variable (m : (ℓ : Loc nD τ sig) → Buf (Elt Ideal) ℓ)

/-- The angle of the channel transform at a pair of lanes. -/
def turn (j k : ℕ) : EReal :=
  Ideal.ofBits .f32 0x3CC90FDB#32 *
    FloatOps.sitofp (F := Ideal) .f32 (floorR (IntOp.muli (BitVec.ofNat 32 j) (BitVec.ofNat 32 k)) 256#32)

/-- The channel transform's table that the host code leaves: cosines, then sines. -/
theorem channel_apply (c : Dev nD) (j : Fin 256) (k : Fin 512) :
    (V m c main_v49 : S256x512.Idx → EReal) (ix2 j k)
      = if k.val < 256 then Ideal.cos (turn j.val k.val) else Ideal.sin (turn j.val (k.val - 256)) := by
  rw [entry]
  after_reads_at
  split_ifs
  all_goals after_reads_at
  · exact congrArg Ideal.cos (congrArg (fun w : EReal => Ideal.ofBits .f32 0x3CC90FDB#32 * w)
      (congrArg (FloatOps.sitofp (F := Ideal) .f32) rfl))
  all_goals exact congrArg Ideal.sin (congrArg (fun w : EReal => Ideal.ofBits .f32 0x3CC90FDB#32 * w)
      (congrArg (FloatOps.sitofp (F := Ideal) .f32) rfl))

/-- The keys' weights: the first 64 lanes of each head of the up-projection, zero in the rest. -/
theorem weightK_apply (c : Dev nD) (i : Fin 128) (d : Fin 1024) :
    (V m c main_v55 : S128x1024.Idx → EReal) (ix2 i d)
      = if d.val % 128 < 64 then (m ((c : Thread nD τ).loc main_arg8) : S128x1024.Idx → EReal) (ix2 i d) else (0 : EReal) := by
  rw [entry]
  after_reads_at
  split_ifs
  all_goals try after_reads_at
  exact congrArg (fun e : Fin 1024 => (m ((c : Thread nD τ).loc main_arg8) : S128x1024.Idx → EReal) (ix2 i e))
    (Fin.ext (by dsimp only; omega))

/-- The values' weights: the last 64 lanes of each head of the up-projection. -/
theorem weightV_apply (c : Dev nD) (i : Fin 128) (d : Fin 512) :
    (V m c main_v56 : S128x512.Idx → EReal) (ix2 i d)
      = (m ((c : Thread nD τ).loc main_arg8) : S128x1024.Idx → EReal) (ix2 i ⟨d.val / 64 * 128 + 64 + d.val % 64, by omega⟩) := by
  rw [entry]
  after_reads_at
  exact congrArg (fun e : Fin 1024 => (m ((c : Thread nD τ).loc main_arg8) : S128x1024.Idx → EReal) (ix2 i e))
    (Fin.ext (by dsimp only; omega))

/-- The queries' weights: the 96 lanes of each head of the up-projection, zero in the rest. -/
theorem weightQ_apply (c : Dev nD) (i : Fin 256) (d : Fin 1024) :
    (V m c main_v53 : S256x1024.Idx → EReal) (ix2 i d)
      = if h : d.val % 128 < 96 then
          (m ((c : Thread nD τ).loc main_arg6) : S256x768.Idx → EReal) (ix2 i ⟨d.val / 128 * 96 + d.val % 128, by omega⟩)
        else (0 : EReal) := by
  rw [entry]
  after_reads_at
  split_ifs
  all_goals try after_reads_at

end Cert.InProj

end
-- ==== Proof.InProj.Partner.lean ====
/-
  The weights of the rotary lanes as the host code lays them out.
-/
module

public import proofs.«01_k».proof.Proof.InProj.Host

@[expose] public section

set_option maxRecDepth 16384

noncomputable section

namespace Cert.InProj

open Cert.Kernel3Ideal Cert.Kernel3Ideal.Gen Idealize.ShloMosaic Idealize.ShloMosaic.TcCoe Cert.Rows

variable (m : (ℓ : Loc nD τ sig) → Buf (Elt Ideal) ℓ)

/-- The rotary lanes with each pair's two halves exchanged, the first half negated. -/
def swapped (w : Fin 32 → EReal) (l : Fin 32) : EReal :=
  if h : l.val % 16 < 8 then -w ⟨l.val + 8, by omega⟩ else w ⟨l.val - 8, by omega⟩

/-- An exchanged lane of a pair's first half. -/
theorem swapped_lo (w : Fin 32 → EReal) (l e : Fin 32) (h : l.val % 16 < 8) (he : e.val = l.val + 8) : swapped w l = -w e := by
  rw [swapped, dif_pos h]
  exact congrArg (fun e => -w e) (Fin.ext he.symm)

/-- An exchanged lane of a pair's second half. -/
theorem swapped_hi (w : Fin 32 → EReal) (l e : Fin 32) (h : ¬ l.val % 16 < 8) (he : e.val = l.val - 8) : swapped w l = w e := by
  rw [swapped, dif_neg h]
  exact congrArg w (Fin.ext he.symm)

/-- The queries' partner lanes: in a head's rotary lanes the exchanged ones, zero in the rest. -/
def headPartner (w : Fin 768 → EReal) (d : Fin 1024) : EReal :=
  if d.val % 128 < 64 then 0
  else if h : d.val % 128 < 96 then
    swapped (fun l => w ⟨d.val / 128 * 96 + (64 + l.val), by omega⟩) ⟨d.val % 128 - 64, by omega⟩
  else 0

theorem headPartner_lo (w : Fin 768 → EReal) (d : Fin 1024) (e : Fin 768) (h0 : ¬ d.val % 128 < 64) (h1 : d.val % 128 < 96)
    (hs : (d.val % 128 - 64) % 16 < 8) (he : e.val = d.val / 128 * 96 + (d.val % 128 + 8)) : headPartner w d = -w e := by
  rw [headPartner, if_neg h0, dif_pos h1, swapped_lo _ ⟨d.val % 128 - 64, by omega⟩ ⟨d.val % 128 - 64 + 8, by omega⟩ hs rfl]
  exact congrArg (fun e => -w e) (Fin.ext (by dsimp only; omega))

theorem headPartner_hi (w : Fin 768 → EReal) (d : Fin 1024) (e : Fin 768) (h0 : ¬ d.val % 128 < 64) (h1 : d.val % 128 < 96)
    (hs : ¬ (d.val % 128 - 64) % 16 < 8) (he : e.val = d.val / 128 * 96 + (d.val % 128 - 8)) : headPartner w d = w e := by
  rw [headPartner, if_neg h0, dif_pos h1, swapped_hi _ ⟨d.val % 128 - 64, by omega⟩ ⟨d.val % 128 - 64 - 8, by omega⟩ hs rfl]
  exact congrArg w (Fin.ext (by dsimp only; omega))

theorem headPartner_low (w : Fin 768 → EReal) (d : Fin 1024) (h0 : d.val % 128 < 64) : headPartner w d = 0 := if_pos h0

theorem headPartner_high (w : Fin 768 → EReal) (d : Fin 1024) (h1 : ¬ d.val % 128 < 96) : headPartner w d = 0 := by
  rw [headPartner, if_neg (by omega), dif_neg h1]

set_option maxHeartbeats 2000000 in
/-- The queries' partner weights that the host code leaves. -/
theorem weightQP_apply (c : Dev nD) (i : Fin 256) (d : Fin 1024) (w : Fin 768 → EReal)
    (hw : ∀ e, (m (c, Proc.tc.devRef main_arg6) : S256x768.Idx → EReal) (ix2 i e) = w e) :
    (V m c main_v54 : S256x1024.Idx → EReal) (ix2 i d) = headPartner w d := by
  rw [entry]
  after_reads_at
  split_ifs
  all_goals try after_reads_at
  all_goals try split_ifs
  all_goals try after_reads_at
  all_goals try rw [hw]
  all_goals clear hw
  all_goals first
    | exact (headPartner_low w d (by omega)).symm
    | exact (headPartner_high w d (by omega)).symm
    | exact (headPartner_lo w d _ (by omega) (by omega) (by omega) (by dsimp only; omega)).symm
    | exact (headPartner_hi w d _ (by omega) (by omega) (by omega) (by dsimp only; omega)).symm

end Cert.InProj

end
-- ==== Proof.InProj.Wall.lean ====
/-
  The input projection's weights as the host code lays them out.
-/
module

public import proofs.«01_k».proof.Proof.InProj.Partner

@[expose] public section

set_option maxRecDepth 16384

noncomputable section

namespace Cert.InProj

open Cert.Kernel3Ideal Cert.Kernel3Ideal.Gen Idealize.ShloMosaic Idealize.ShloMosaic.TcCoe Cert.Rows

variable (m : (ℓ : Loc nD τ sig) → Buf (Elt Ideal) ℓ)

/-- The order of the input projection's lanes in the kernel: the latents, then all after the shared
    key, then the shared key in the rotary lanes of 128, then its exchanged form in those of 128 more. -/
def wallLane (w : Fin 4000 → EReal) (d : Fin 4224) : EReal :=
  if h : d.val < 384 then w ⟨d.val, by omega⟩
  else if h : d.val < 3968 then w ⟨d.val + 32, by omega⟩
  else if d.val < 4032 then 0
  else if h : d.val < 4064 then w ⟨384 + (d.val - 4032), by omega⟩
  else if d.val < 4160 then 0
  else if h : d.val < 4192 then swapped (fun l => w ⟨384 + l.val, by omega⟩) ⟨d.val - 4160, by omega⟩
  else 0

theorem wall_first (w : Fin 4000 → EReal) (d : Fin 4224) (e : Fin 4000) (h : d.val < 384) (he : e.val = d.val) : wallLane w d = w e := by
  rw [wallLane, dif_pos h]
  exact congrArg w (Fin.ext he.symm)

theorem wall_second (w : Fin 4000 → EReal) (d : Fin 4224) (e : Fin 4000) (h0 : ¬ d.val < 384) (h : d.val < 3968) (he : e.val = d.val + 32) :
    wallLane w d = w e := by
  rw [wallLane, dif_neg h0, dif_pos h]
  exact congrArg w (Fin.ext he.symm)

theorem wall_zero (w : Fin 4000 → EReal) (d : Fin 4224)
    (h : (¬ d.val < 3968 ∧ d.val < 4032) ∨ (¬ d.val < 4064 ∧ d.val < 4160) ∨ ¬ d.val < 4192) : wallLane w d = 0 := by
  rcases h with h | h | h
  · rw [wallLane, dif_neg (by omega), dif_neg (by omega), if_pos (by omega)]
  · rw [wallLane, dif_neg (by omega), dif_neg (by omega), if_neg (by omega), dif_neg (by omega), if_pos (by omega)]
  · rw [wallLane, dif_neg (by omega), dif_neg (by omega), if_neg (by omega), dif_neg (by omega), if_neg (by omega), dif_neg (by omega)]

theorem wall_key (w : Fin 4000 → EReal) (d : Fin 4224) (e : Fin 4000) (h0 : ¬ d.val < 4032) (h : d.val < 4064) (he : e.val = d.val - 3648) :
    wallLane w d = w e := by
  rw [wallLane, dif_neg (by omega), dif_neg (by omega), if_neg h0, dif_pos h]
  exact congrArg w (Fin.ext (by dsimp only; omega))

theorem wall_partner (w : Fin 4000 → EReal) (d : Fin 4224) (h0 : ¬ d.val < 4160) (h : d.val < 4192) :
    wallLane w d = swapped (fun l => w ⟨384 + l.val, by omega⟩) ⟨d.val - 4160, by omega⟩ := by
  rw [wallLane, dif_neg (by omega), dif_neg (by omega), if_neg (by omega), dif_neg (by omega), if_neg h0, dif_pos h]

theorem wall_lo (w : Fin 4000 → EReal) (d : Fin 4224) (e : Fin 4000) (h0 : ¬ d.val < 4160) (h : d.val < 4192)
    (hs : (d.val - 4160) % 16 < 8) (he : e.val = d.val - 3768) : wallLane w d = -w e := by
  rw [wall_partner w d h0 h, swapped_lo _ ⟨d.val - 4160, by omega⟩ ⟨d.val - 4160 + 8, by omega⟩ hs rfl]
  exact congrArg (fun e => -w e) (Fin.ext (by dsimp only; omega))

theorem wall_hi (w : Fin 4000 → EReal) (d : Fin 4224) (e : Fin 4000) (h0 : ¬ d.val < 4160) (h : d.val < 4192)
    (hs : ¬ (d.val - 4160) % 16 < 8) (he : e.val = d.val - 3784) : wallLane w d = w e := by
  rw [wall_partner w d h0 h, swapped_hi _ ⟨d.val - 4160, by omega⟩ ⟨d.val - 4160 - 8, by omega⟩ hs rfl]
  exact congrArg w (Fin.ext (by dsimp only; omega))

set_option maxHeartbeats 2000000 in
/-- The input projection's weights that the host code leaves. -/
theorem weightWall_apply (c : Dev nD) (i : Fin 1024) (d : Fin 4224) (w : Fin 4000 → EReal)
    (hw : ∀ e, (m (c, Proc.tc.devRef main_arg3) : S1024x4000.Idx → EReal) (ix2 i e) = w e) :
    (V m c main_v13 : S1024x4224.Idx → EReal) (ix2 i d) = wallLane w d := by
  rw [entry]
  after_reads_at
  split_ifs
  all_goals try after_reads_at
  all_goals try split_ifs
  all_goals try after_reads_at
  all_goals try rw [hw]
  all_goals clear hw
  all_goals first
    | exact (wall_first w d _ (by omega) (by dsimp only <;> omega)).symm
    | exact (wall_second w d _ (by omega) (by omega) (by dsimp only; omega)).symm
    | exact (wall_zero w d (by omega)).symm
    | exact (wall_key w d _ (by omega) (by omega) (by dsimp only; omega)).symm
    | exact (wall_lo w d _ (by omega) (by omega) (by omega) (by dsimp only; omega)).symm
    | exact (wall_hi w d _ (by omega) (by omega) (by omega) (by dsimp only; omega)).symm

end Cert.InProj

end
-- ==== Proof.InProj.Tokens.lean ====
/-
  The input projection of a token, over the launch's arrays: what the kernel's order of the weights gives.
-/
module

public import proofs.«01_k».proof.Reference3Ideal
public import proofs.«01_k».proof.Proof.OutProj.Formulas
public import proofs.«01_k».proof.Proof.InProj.Tables
public import proofs.«01_k».proof.Proof.InProj.Weights
public import proofs.«01_k».proof.Proof.InProj.Wall

@[expose] public section

noncomputable section

namespace Cert.InProj

open Cert.Reference3Ideal Idealize.ShloMosaic Idealize.ShloMosaic.TcCoe Cert.Rows
open Cert.OutProj (modRow)

/-- The position of a token in its sequence. -/
def pos (r : Fin 16384) : Fin 4096 := ⟨r.val % 4096, Nat.mod_lt _ (by decide)⟩

/-- A head's lane. -/
def headLane (d : Fin 1024) : Fin 128 := ⟨d.val % 128, Nat.mod_lt _ (by decide)⟩

-- The layer's arrays: tokens, modulation, the norm's gain, the weights, the gates' bias, and the latents' gains and weights.
variable (x0 : FVec Ideal S16384x1024 .f32) (x1 : FVec Ideal S16x6144 .f32) (x2 : FVec Ideal S1024 .f32)
  (x3 : FVec Ideal S1024x4000 .f32) (x4 : FVec Ideal S3072 .f32) (x5 : FVec Ideal S256 .f32) (x6 : FVec Ideal S256x768 .f32)
  (x7 : FVec Ideal S128 .f32) (x8 : FVec Ideal S128x1024 .f32)

/-- A token's modulated norm. -/
def tokHidden (r : Fin 16384) : Fin 1024 → EReal :=
  hidden (fun e => x0 (ix2 r e)) (fun e => x2 (ix1 e)) (fun e => x1 (ix2 (modRow r) e))

/-- A token's projection, in the kernel's order of lanes. -/
def tokWall (r : Fin 16384) : Fin 4224 → EReal :=
  dot (tokHidden x0 x1 x2 r) (fun i j => wallLane (fun e => x3 (ix2 i e)) j)

/-- A token's latent row of keys and values. -/
def tokKV (r : Fin 16384) : Fin 128 → EReal := latentKV (by decide) (tokWall x0 x1 x2 x3 r) (fun e => x7 (ix1 e))

/-- A token's latent row of queries. -/
def tokQL (r : Fin 16384) : Fin 256 → EReal := latentQ (by decide) (tokWall x0 x1 x2 x3 r) (fun e => x5 (ix1 e))

/-- A token's keys. -/
def tokK (r : Fin 16384) (d : Fin 1024) : EReal :=
  dot (tokKV x0 x1 x2 x3 x7 r) (fun i j => if j.val % 128 < 64 then (x8 (ix2 i j) : EReal) else 0) d
    + (tokWall x0 x1 x2 x3 r ⟨3968 + (headLane d).val, by omega⟩ * table 0 Ideal.cos (pos r).val (headLane d)
      + tokWall x0 x1 x2 x3 r ⟨4096 + (headLane d).val, by omega⟩ * table 0 Ideal.sin (pos r).val (headLane d))

/-- A token's values. -/
def tokV (r : Fin 16384) (d : Fin 512) : EReal :=
  dot (tokKV x0 x1 x2 x3 x7 r) (fun i (j : Fin 512) => x8 (ix2 i ⟨j.val / 64 * 128 + 64 + j.val % 64, by omega⟩)) d

/-- The queries' weights of a head's lane: the 96 lanes of the head, zero in the rest. -/
def headQuery (w : Fin 768 → EReal) (d : Fin 1024) : EReal :=
  if h : d.val % 128 < 96 then w ⟨d.val / 128 * 96 + d.val % 128, by omega⟩ else 0

/-- A token's queries. -/
def tokQ (r : Fin 16384) (d : Fin 1024) : EReal :=
  dot (tokQL x0 x1 x2 x3 x5 r) (fun i => headQuery fun e => x6 (ix2 i e)) d * (table 1 Ideal.cos (pos r).val (headLane d) * qScale)
    + dot (tokQL x0 x1 x2 x3 x5 r) (fun i => headPartner fun e => x6 (ix2 i e)) d * (table 0 Ideal.sin (pos r).val (headLane d) * qScale)

/-- A token's row of the channel transform: cosines, then sines. -/
def tokF (r : Fin 16384) (d : Fin 512) : EReal :=
  dot (fun e : Fin 256 => tokWall x0 x1 x2 x3 r ⟨384 + e.val, by omega⟩)
    (fun j (k : Fin 512) => if k.val < 256 then Ideal.cos (turn j.val k.val) else Ideal.sin (turn j.val (k.val - 256))) d

/-- A token's row of the pooled branch's input. -/
def tokP (r : Fin 16384) (d : Fin 256) : EReal := tokWall x0 x1 x2 x3 r ⟨640 + d.val, by omega⟩

/-- A token's gates. -/
def tokG (r : Fin 16384) (d : Fin 3072) : EReal :=
  Ideal.logistic (tokWall x0 x1 x2 x3 r ⟨896 + d.val, by omega⟩ + x4 (ix1 d))

end Cert.InProj

end
-- ==== Proof.InProj.Block.lean ====
/-
  What one grid point of the input projection stores: 256 rows of the keys, values, queries, the branches' inputs and the gates.
-/
module

public import proofs.«01_k».proof.Proof.Gen.Kernel3Ideal.Frame
public import proofs.«01_k».proof.Proof.InProj.Formulas
public import Idealize.ShloMosaic.Lib.Pointwise
public import Idealize.ShloMosaic.Lib.Pipeline.ValueKit

@[expose] public section

set_option maxRecDepth 16384

noncomputable section

namespace Cert.InProj

open Cert.Kernel3Ideal Cert.Kernel3Ideal.Gen Idealize.ShloMosaic Idealize.ShloMosaic.TcCoe Cert.Rows

/-- The projection of the token rows. -/
theorem dotAll (a : FVec Ideal S256x1024 .bf16) (w : FVec Ideal S1024x4224 .bf16) (r : Fin 256) (d : Fin 4224) :
    (matmul dot_S256x1024_S1024x4224_S256x4224_1_0_0_1_n_n none a w (constant S256x4224 .f32 0x00000000#32) : FVec Ideal S256x4224 .f32) (ix2 r d)
      = dot (fun i => a (ix2 r i)) (fun i j => w (ix2 i j)) d := by
  unfold dot
  pointwise

/-- The keys of a latent row. -/
theorem dotK (a : FVec Ideal S256x128 .bf16) (w : FVec Ideal S128x1024 .bf16) (r : Fin 256) (d : Fin 1024) :
    (matmul dot_S256x128_S128x1024_S256x1024_1_0_0_1_n_n none a w (constant S256x1024 .f32 0x00000000#32) : FVec Ideal S256x1024 .f32) (ix2 r d)
      = dot (fun i => a (ix2 r i)) (fun i j => w (ix2 i j)) d := by
  unfold dot
  pointwise

/-- The values of a latent row. -/
theorem dotV (a : FVec Ideal S256x128 .bf16) (w : FVec Ideal S128x512 .bf16) (r : Fin 256) (d : Fin 512) :
    (matmul dot_S256x128_S128x512_S256x512_1_0_0_1_n_n none a w (constant S256x512 .f32 0x00000000#32) : FVec Ideal S256x512 .f32) (ix2 r d)
      = dot (fun i => a (ix2 r i)) (fun i j => w (ix2 i j)) d := by
  unfold dot
  pointwise

/-- The queries of a latent row. -/
theorem dotQ (a : FVec Ideal S256x256 .bf16) (w : FVec Ideal S256x1024 .bf16) (r : Fin 256) (d : Fin 1024) :
    (matmul dot_S256x256_S256x1024_S256x1024_1_0_0_1_n_n none a w (constant S256x1024 .f32 0x00000000#32) : FVec Ideal S256x1024 .f32) (ix2 r d)
      = dot (fun i => a (ix2 r i)) (fun i j => w (ix2 i j)) d := by
  unfold dot
  pointwise

/-- The channels' cosine and sine sums. -/
theorem dotF (a : FVec Ideal S256x256 .bf16) (w : FVec Ideal S256x512 .bf16) (r : Fin 256) (d : Fin 512) :
    (matmul dot_S256x256_S256x512_S256x512_1_0_0_1_n_n none a w (constant S256x512 .f32 0x00000000#32) : FVec Ideal S256x512 .f32) (ix2 r d)
      = dot (fun i => a (ix2 r i)) (fun i j => w (ix2 i j)) d := by
  unfold dot
  pointwise

/-- The modulated norm, cast: the projection's left operand. -/
theorem hidden_apply (v0 : Vec Ideal S256x1024 .f32) (v1 : Vec Ideal S1x1x6144 .f32) (v13 : Vec Ideal S1x1024 .f32)
    (v26 : Vec Ideal S1024x4224 .bf16) (r : Fin 256) (d : Fin 4224) :
    k0_pay1 v0 v1 v13 v26 (ix2 r d)
      = dot (hidden (fun e => v0 (ix2 r e)) (fun e => v13 (ix2 0 e)) (fun e => v1 (ix3 0 0 e))) (fun i j => v26 (ix2 i j)) d := by
  unfold k0_pay1
  rw [dotAll]
  refine congrArg₂ (dot · · d) (funext fun i => ?_) ?_
  · unfold hidden modulated normed unit
    pointwise
  · simp only [shapeCast_self]

/-- The latent row of the keys and values, normed, without its gain. -/
theorem pay2_apply (v0 : Vec Ideal S256x1024 .f32) (v1 : Vec Ideal S1x1x6144 .f32) (v13 : Vec Ideal S1x1024 .f32)
    (v26 : Vec Ideal S1024x4224 .bf16) (r : Fin 256) (d : Fin 128) :
    k0_pay2 v0 v1 v13 v26 (ix2 r d)
      = unit 0x43000000#32 (fun e : Fin 128 => k0_pay1 v0 v1 v13 v26 (ix2 r ⟨256 + e.val, by omega⟩)) d := by
  unfold k0_pay2
  generalize k0_pay1 v0 v1 v13 v26 = z
  unfold unit
  pointwise

/-- … with its gain. -/
theorem pay3_apply (v39 : FVec Ideal S256x128 .f32) (v40 : Vec Ideal S1x128 .f32) (r : Fin 256) (d : Fin 128) :
    k0_pay3 v39 v40 (ix2 r d) = v39 (ix2 r d) * v40 (ix2 0 d) := by
  pointwise [k0_pay3]

/-- The keys before their rotated part. -/
theorem pay4_apply (v39 : FVec Ideal S256x128 .f32) (v40 : Vec Ideal S1x128 .f32) (v45 : Vec Ideal S128x1024 .bf16) (r : Fin 256) (d : Fin 1024) :
    k0_pay4 v39 v40 v45 (ix2 r d) = dot (fun e => v39 (ix2 r e) * v40 (ix2 0 e)) (fun i j => v45 (ix2 i j)) d := by
  unfold k0_pay4
  rw [dotK]
  simp only [pay3_apply, shapeCast_self]

/-- The rotated part of the keys, one for all heads. -/
theorem pay5_apply (z : FVec Ideal S256x4224 .f32) (c s : Vec Ideal S256x128 .f32) (r : Fin 256) (d : Fin 128) :
    k0_pay5 z c s (ix2 r d)
      = z (ix2 r ⟨3968 + d.val, by omega⟩) * c (ix2 r d) + z (ix2 r ⟨4096 + d.val, by omega⟩) * s (ix2 r d) := by
  pointwise [k0_pay5]

/-- The values. -/
theorem pay15_apply (a : FVec Ideal S256x128 .bf16) (w : Vec Ideal S128x512 .bf16) (r : Fin 256) (d : Fin 512) :
    k0_pay15 a w (ix2 r d) = dot (fun e => a (ix2 r e)) (fun i j => w (ix2 i j)) d := by
  unfold k0_pay15
  simp only [shapeCast_self]
  exact dotV a w r d

/-- The latent row of the queries. -/
theorem pay16_apply (z : FVec Ideal S256x4224 .f32) (g : Vec Ideal S1x256 .f32) (r : Fin 256) (d : Fin 256) :
    k0_pay16 z g (ix2 r d) = latentQ (by decide) (fun j => z (ix2 r j)) (fun e => g (ix2 0 e)) d := by
  unfold k0_pay16 latentQ normed unit
  pointwise

/-- The queries before the rotation. -/
theorem pay17_apply (z : FVec Ideal S256x4224 .f32) (g : Vec Ideal S1x256 .f32) (w : Vec Ideal S256x1024 .bf16) (r : Fin 256) (d : Fin 1024) :
    k0_pay17 z g w (ix2 r d) = dot (latentQ (by decide) (fun j => z (ix2 r j)) (fun e => g (ix2 0 e))) (fun i j => w (ix2 i j)) d := by
  unfold k0_pay17
  rw [dotQ]
  simp only [pay16_apply, shapeCast_self]

/-- … with the pairs' lanes exchanged. -/
theorem pay18_apply (a : FVec Ideal S256x256 .bf16) (w : Vec Ideal S256x1024 .bf16) (r : Fin 256) (d : Fin 1024) :
    k0_pay18 a w (ix2 r d) = dot (fun e => a (ix2 r e)) (fun i j => w (ix2 i j)) d := by
  unfold k0_pay18
  simp only [shapeCast_self]
  exact dotQ a w r d

/-- The channels' cosine and sine sums of a row. -/
theorem pay29_apply (z : FVec Ideal S256x4224 .f32) (w : Vec Ideal S256x512 .bf16) (r : Fin 256) (d : Fin 512) :
    k0_pay29 z w (ix2 r d) = dot (fun e : Fin 256 => z (ix2 r ⟨384 + e.val, by omega⟩)) (fun i j => w (ix2 i j)) d := by
  unfold k0_pay29
  simp only [shapeCast_self]
  refine (dotF _ w r d).trans (congrArg (dot · _ d) (funext fun e => ?_))
  pointwise

/-- The pooling branch's input. -/
theorem pay30_apply (z : FVec Ideal S256x4224 .f32) (r : Fin 256) (d : Fin 256) :
    k0_pay30 z (ix2 r d) = z (ix2 r ⟨640 + d.val, by omega⟩) := by
  pointwise [k0_pay30]

/-- The gates. -/
theorem pay31_apply (z : FVec Ideal S256x4224 .f32) (b : Vec Ideal S1x3072 .f32) (r : Fin 256) (d : Fin 3072) :
    k0_pay31 z b (ix2 r d) = Ideal.logistic (z (ix2 r ⟨896 + d.val, by omega⟩) + b (ix2 0 d)) := by
  pointwise [k0_pay31]

-- The blocks that a grid point reads.
variable (x0 : Vec Ideal S256x1024 .f32) (x1 : Vec Ideal S1x1x6144 .f32) (x2 : Vec Ideal S1x1024 .f32)
  (x3 : Vec Ideal S1024x4224 .bf16) (x4 : Vec Ideal S1x256 .f32) (x5 x6 : Vec Ideal S256x1024 .bf16) (x7 : Vec Ideal S1x128 .f32)
  (x8 : Vec Ideal S128x1024 .bf16) (x9 : Vec Ideal S128x512 .bf16) (x10 : Vec Ideal S256x512 .bf16) (x11 : Vec Ideal S1x3072 .f32)
  (x12 x13 x14 x15 : Vec Ideal S256x128 .f32)

/-- Row `r` of the projections, from the blocks. -/
def blockZ (r : Fin 256) : Fin 4224 → EReal :=
  dot (hidden (fun e => x0 (ix2 r e)) (fun e => x2 (ix2 0 e)) (fun e => x1 (ix3 0 0 e))) (fun i j => x3 (ix2 i j))

/-- A row of the projections, as the block computes it. -/
theorem pay32_apply (r : Fin 256) (d : Fin 4224) :
    k0_pay32 x0 x1 x2 x3 x4 x5 x6 x7 x8 x9 x10 x11 x12 x13 x14 x15 (ix2 r d) = blockZ x0 x1 x2 x3 r d := by
  unfold k0_pay32
  rw [hidden_apply]
  rw [View.ld_unit_lit, View.ld_unit_lit, View.ld_unit_lit, View.ld_unit_lit]
  all_goals first | rfl | decide

/-- The normed latent row of the keys and values, without its gain. -/
theorem pay33_apply (r : Fin 256) (d : Fin 128) :
    k0_pay33 x0 x1 x2 x3 x4 x5 x6 x7 x8 x9 x10 x11 x12 x13 x14 x15 (ix2 r d)
      = unit 0x43000000#32 (fun e : Fin 128 => blockZ x0 x1 x2 x3 r ⟨256 + e.val, by omega⟩) d := by
  unfold k0_pay33
  rw [pay2_apply]
  refine congrArg (unit _ · d) (funext fun e => ?_)
  exact pay32_apply x0 x1 x2 x3 x4 x5 x6 x7 x8 x9 x10 x11 x12 x13 x14 x15 r _

/-- The keys before their rotated part. -/
theorem pay34_apply (r : Fin 256) (d : Fin 1024) :
    k0_pay34 x0 x1 x2 x3 x4 x5 x6 x7 x8 x9 x10 x11 x12 x13 x14 x15 (ix2 r d)
      = dot (latentKV (by decide) (blockZ x0 x1 x2 x3 r) (fun e => x7 (ix2 0 e))) (fun i j => x8 (ix2 i j)) d := by
  unfold k0_pay34
  rw [pay4_apply]
  simp only [pay33_apply]
  rw [View.ld_unit_lit, View.ld_unit_lit]
  all_goals first | rfl | decide

/-- The rotated part of the keys. -/
theorem pay35_apply (r : Fin 256) (d : Fin 128) :
    k0_pay35 x0 x1 x2 x3 x4 x5 x6 x7 x8 x9 x10 x11 x12 x13 x14 x15 (ix2 r d)
      = blockZ x0 x1 x2 x3 r ⟨3968 + d.val, by omega⟩ * x14 (ix2 r d) + blockZ x0 x1 x2 x3 r ⟨4096 + d.val, by omega⟩ * x15 (ix2 r d) := by
  unfold k0_pay35
  rw [pay5_apply]
  simp only [pay32_apply]
  rw [View.ld_unit_lit, View.ld_unit_lit]
  all_goals first | rfl | decide

/-- The latent row of the queries. -/
theorem pay36_apply (r : Fin 256) (d : Fin 256) :
    k0_pay36 x0 x1 x2 x3 x4 x5 x6 x7 x8 x9 x10 x11 x12 x13 x14 x15 (ix2 r d)
      = latentQ (by decide) (blockZ x0 x1 x2 x3 r) (fun e => x4 (ix2 0 e)) d := by
  unfold k0_pay36
  rw [pay16_apply]
  simp only [pay32_apply]
  rw [View.ld_unit_lit]
  all_goals first | rfl | decide

/-- The queries before the rotation. -/
theorem pay37_apply (r : Fin 256) (d : Fin 1024) :
    k0_pay37 x0 x1 x2 x3 x4 x5 x6 x7 x8 x9 x10 x11 x12 x13 x14 x15 (ix2 r d)
      = dot (latentQ (by decide) (blockZ x0 x1 x2 x3 r) (fun e => x4 (ix2 0 e))) (fun i j => x5 (ix2 i j)) d := by
  unfold k0_pay37
  rw [pay17_apply]
  simp only [pay32_apply]
  rw [View.ld_unit_lit, View.ld_unit_lit]
  all_goals first | rfl | decide

/-- … with the pairs' lanes exchanged. -/
theorem pay38_apply (r : Fin 256) (d : Fin 1024) :
    k0_pay38 x0 x1 x2 x3 x4 x5 x6 x7 x8 x9 x10 x11 x12 x13 x14 x15 (ix2 r d)
      = dot (latentQ (by decide) (blockZ x0 x1 x2 x3 r) (fun e => x4 (ix2 0 e))) (fun i j => x6 (ix2 i j)) d := by
  unfold k0_pay38
  rw [pay18_apply]
  simp only [pay36_apply]
  rw [View.ld_unit_lit]
  all_goals first | rfl | decide

/-- The queries' cosine table. -/
theorem pay39_eq : k0_pay39 x0 x1 x2 x3 x4 x5 x6 x7 x8 x9 x10 x11 x12 x13 x14 x15 = x12 := by
  unfold k0_pay39 k0_pay19
  rw [View.ld_unit_lit]
  · exact shapeCast_self _ _
  · decide

/-- The queries' sine table. -/
theorem pay40_eq : k0_pay40 x0 x1 x2 x3 x4 x5 x6 x7 x8 x9 x10 x11 x12 x13 x14 x15 = x13 := by
  unfold k0_pay40 k0_pay20
  rw [View.ld_unit_lit]
  · exact shapeCast_self _ _
  · decide

/-- A row of the values, as the block stores it. -/
theorem out17_apply (r : Fin 256) (d : Fin 512) :
    out0_17 x0 x1 x2 x3 x4 x5 x6 x7 x8 x9 x10 x11 x12 x13 x14 x15 (ix2 r d)
      = dot (latentKV (by decide) (blockZ x0 x1 x2 x3 r) (fun e => x7 (ix2 0 e))) (fun i j => x9 (ix2 i j)) d := by
  frame_out
  rw [pay15_apply]
  simp only [pay3_apply, pay33_apply]
  rfl

/-- A row of the cosine and sine sums. -/
theorem out19_apply (r : Fin 256) (d : Fin 512) :
    out0_19 x0 x1 x2 x3 x4 x5 x6 x7 x8 x9 x10 x11 x12 x13 x14 x15 (ix2 r d)
      = dot (fun e : Fin 256 => blockZ x0 x1 x2 x3 r ⟨384 + e.val, by omega⟩) (fun i j => x10 (ix2 i j)) d := by
  frame_out
  rw [pay29_apply]
  simp only [pay32_apply]

/-- A row of the pooling branch's input. -/
theorem out20_apply (r : Fin 256) (d : Fin 256) :
    out0_20 x0 x1 x2 x3 x4 x5 x6 x7 x8 x9 x10 x11 x12 x13 x14 x15 (ix2 r d) = blockZ x0 x1 x2 x3 r ⟨640 + d.val, by omega⟩ := by
  frame_out
  rw [pay30_apply, pay32_apply]

/-- A row of the gates. -/
theorem out21_apply (r : Fin 256) (d : Fin 3072) :
    out0_21 x0 x1 x2 x3 x4 x5 x6 x7 x8 x9 x10 x11 x12 x13 x14 x15 (ix2 r d)
      = Ideal.logistic (blockZ x0 x1 x2 x3 r ⟨896 + d.val, by omega⟩ + x11 (ix2 0 d)) := by
  frame_out
  rw [pay31_apply, pay32_apply]

end Cert.InProj

end
-- ==== Proof.InProj.Heads.lean ====
/-
  The keys and queries that one grid point of the input projection stores, head by head: a head is a tile of 128 lanes.
-/
module

public import proofs.«01_k».proof.Proof.InProj.Block

@[expose] public section

set_option maxRecDepth 16384

noncomputable section

namespace Cert.InProj

open Cert.Kernel3Ideal Cert.Kernel3Ideal.Gen Idealize.ShloMosaic Idealize.ShloMosaic.TcCoe Cert.Rows

/-- The lane of a head's row that a column of the heads holds. -/
def lane (d : Fin 1024) : Fin 128 := ⟨d.val % 128, Nat.mod_lt _ (by decide)⟩

/-- A head's keys: its slice of the keys plus the part that all heads share. -/
theorem tileK_apply (v : FVec Ideal S256x1024 .f32) (w : FVec Ideal S256x128 .f32) (o : ℕ) (ho : o % 128 = 0)
    (hs : S256x1024.Slices ![0, o] S256x128) (x : S256x128.Idx) (r : Fin 256) (d : Fin 1024) (hr : r.val = (x 0).val)
    (hd : d.val = o + (x 1).val) :
    (truncf .bf16 (addf (extractStridedSlice S256x128 ![0, o] v hs) w) bitsLt_bf16_f32 : FVec Ideal S256x128 .bf16) x
      = v (ix2 r d) + w (ix2 r (lane d)) := by
  idx_vars x
  have hx : x1.val < 128 := x1.isLt
  have hr' : r = x0 := Fin.ext hr
  have hl : lane d = x1 := Fin.ext (by have : d.val = o + x1.val := hd; simp only [lane]; omega)
  have hd' : d = ⟨o + x1.val, by have : d.val = o + x1.val := hd; omega⟩ := Fin.ext hd
  rw [hr', hl, hd']
  pointwise

/-- A head's queries: its slice of the queries times the cosines, plus that of the exchanged lanes times the sines. -/
theorem tileQ_apply (v u : FVec Ideal S256x1024 .f32) (c s : FVec Ideal S256x128 .f32) (o : ℕ) (ho : o % 128 = 0)
    (hs : S256x1024.Slices ![0, o] S256x128) (x : S256x128.Idx) (r : Fin 256) (d : Fin 1024) (hr : r.val = (x 0).val)
    (hd : d.val = o + (x 1).val) :
    (truncf .bf16 (addf (mulf (extractStridedSlice S256x128 ![0, o] v hs) c) (mulf (extractStridedSlice S256x128 ![0, o] u hs) s))
        bitsLt_bf16_f32 : FVec Ideal S256x128 .bf16) x
      = v (ix2 r d) * c (ix2 r (lane d)) + u (ix2 r d) * s (ix2 r (lane d)) := by
  idx_vars x
  have hx : x1.val < 128 := x1.isLt
  have hr' : r = x0 := Fin.ext hr
  have hl : lane d = x1 := Fin.ext (by have : d.val = o + x1.val := hd; simp only [lane]; omega)
  have hd' : d = ⟨o + x1.val, by have : d.val = o + x1.val := hd; omega⟩ := Fin.ext hd
  rw [hr', hl, hd']
  pointwise

-- The blocks that a grid point reads.
variable (x0 : Vec Ideal S256x1024 .f32) (x1 : Vec Ideal S1x1x6144 .f32) (x2 : Vec Ideal S1x1024 .f32)
  (x3 : Vec Ideal S1024x4224 .bf16) (x4 : Vec Ideal S1x256 .f32) (x5 x6 : Vec Ideal S256x1024 .bf16) (x7 : Vec Ideal S1x128 .f32)
  (x8 : Vec Ideal S128x1024 .bf16) (x9 : Vec Ideal S128x512 .bf16) (x10 : Vec Ideal S256x512 .bf16) (x11 : Vec Ideal S1x3072 .f32)
  (x12 x13 x14 x15 : Vec Ideal S256x128 .f32)

/-- A row of the keys, as the block stores it. -/
theorem out16_apply (r : Fin 256) (d : Fin 1024) :
    out0_16 x0 x1 x2 x3 x4 x5 x6 x7 x8 x9 x10 x11 x12 x13 x14 x15 (ix2 r d)
      = dot (latentKV (by decide) (blockZ x0 x1 x2 x3 r) (fun e => x7 (ix2 0 e))) (fun i j => x8 (ix2 i j)) d
        + (blockZ x0 x1 x2 x3 r ⟨3968 + (lane d).val, by omega⟩ * x14 (ix2 r (lane d))
          + blockZ x0 x1 x2 x3 r ⟨4096 + (lane d).val, by omega⟩ * x15 (ix2 r (lane d))) := by
  rw [← pay34_apply x0 x1 x2 x3 x4 x5 x6 x7 x8 x9 x10 x11 x12 x13 x14 x15, ← pay35_apply x0 x1 x2 x3 x4 x5 x6 x7 x8 x9 x10 x11 x12 x13 x14 x15]
  canon_tiles x hx using cover0_16 ..
  all_goals
    refine tileK_apply (k0_pay34 x0 x1 x2 x3 x4 x5 x6 x7 x8 x9 x10 x11 x12 x13 x14 x15)
      (k0_pay35 x0 x1 x2 x3 x4 x5 x6 x7 x8 x9 x10 x11 x12 x13 x14 x15) _ ?_ ?_ x r _ ?_ ?_
  all_goals first | decide | skip
  all_goals
    simp only [show ix2 r d 0 = r from rfl, show ix2 r d 1 = d from rfl] at hx0 hx1
    omega

/-- A row of the queries, as the block stores it. -/
theorem out18_apply (r : Fin 256) (d : Fin 1024) :
    out0_18 x0 x1 x2 x3 x4 x5 x6 x7 x8 x9 x10 x11 x12 x13 x14 x15 (ix2 r d)
      = dot (latentQ (by decide) (blockZ x0 x1 x2 x3 r) (fun e => x4 (ix2 0 e))) (fun i j => x5 (ix2 i j)) d * x12 (ix2 r (lane d))
        + dot (latentQ (by decide) (blockZ x0 x1 x2 x3 r) (fun e => x4 (ix2 0 e))) (fun i j => x6 (ix2 i j)) d * x13 (ix2 r (lane d)) := by
  rw [← pay37_apply x0 x1 x2 x3 x4 x5 x6 x7 x8 x9 x10 x11 x12 x13 x14 x15, ← pay38_apply x0 x1 x2 x3 x4 x5 x6 x7 x8 x9 x10 x11 x12 x13 x14 x15]
  have e12 := pay39_eq x0 x1 x2 x3 x4 x5 x6 x7 x8 x9 x10 x11 x12 x13 x14 x15
  have e13 := pay40_eq x0 x1 x2 x3 x4 x5 x6 x7 x8 x9 x10 x11 x12 x13 x14 x15
  refine Eq.trans ?_ (congrArg₂ (· + ·) (congrArg (_ * ·) (congrFun e12 _)) (congrArg (_ * ·) (congrFun e13 _)))
  clear e12 e13
  canon_tiles x hx using cover0_18 ..
  all_goals
    refine tileQ_apply (k0_pay37 x0 x1 x2 x3 x4 x5 x6 x7 x8 x9 x10 x11 x12 x13 x14 x15)
      (k0_pay38 x0 x1 x2 x3 x4 x5 x6 x7 x8 x9 x10 x11 x12 x13 x14 x15) (k0_pay39 x0 x1 x2 x3 x4 x5 x6 x7 x8 x9 x10 x11 x12 x13 x14 x15)
      (k0_pay40 x0 x1 x2 x3 x4 x5 x6 x7 x8 x9 x10 x11 x12 x13 x14 x15) _ ?_ ?_ x r _ ?_ ?_
  all_goals first | decide | skip
  all_goals
    simp only [show ix2 r d 0 = r from rfl, show ix2 r d 1 = d from rfl] at hx0 hx1
    omega

end Cert.InProj

end
-- ==== Proof.InProj.Array.lean ====
/-
  The arrays that the input projection leaves. Grid point `t` takes rows 256 t and up of the tokens, the modulation row of their
  batch, the positions' tables, and the whole weights.
-/
module

public import proofs.«01_k».proof.Proof.InProj.Tokens
public import proofs.«01_k».proof.Proof.InProj.Heads

@[expose] public section

set_option maxRecDepth 16384

noncomputable section

namespace Cert.InProj

open Cert.Kernel3Ideal Cert.Kernel3Ideal.Gen Idealize.ShloMosaic Idealize.ShloMosaic.TcCoe Cert.Rows
open Idealize.ShloMosaic.Pipeline (Dat)
open Cert.OutProj (modRow)

variable (m : (ℓ : Loc nD τ sig) → Buf (Elt Ideal) ℓ)

/-- Where each window's block lies at a grid point, in blocks. -/
theorem idx : ∀ t : Fin grid0.N,
    win0_0.index t = ![(grid0.coords t 0).val, 0]
    ∧ win0_1.index t = ![(grid0.coords t 0).val / 16, 0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![(grid0.coords t 0).val % 16, 0]
    ∧ win0_13.index t = ![(grid0.coords t 0).val % 16, 0]
    ∧ win0_14.index t = ![(grid0.coords t 0).val % 16, 0]
    ∧ win0_15.index t = ![(grid0.coords t 0).val % 16, 0]
    ∧ win0_16.index t = ![(grid0.coords t 0).val, 0]
    ∧ win0_17.index t = ![(grid0.coords t 0).val, 0]
    ∧ win0_18.index t = ![(grid0.coords t 0).val, 0]
    ∧ win0_19.index t = ![(grid0.coords t 0).val, 0]
    ∧ win0_20.index t = ![(grid0.coords t 0).val, 0]
    ∧ win0_21.index t = ![(grid0.coords t 0).val, 0] := by
  decide +kernel

/-- The grid coordinate is below the grid's size. -/
theorem coords_lt : ∀ t : Fin grid0.N, (grid0.coords t 0).val < 64 := by
  decide +kernel

/-- Row `r` of a token block, in the array. -/
def tok (t : Fin grid0.N) (r : Fin 256) : Fin 16384 :=
  ⟨(grid0.coords t 0).val * 256 + r.val, by have := coords_lt t; omega⟩

/-- The modulation row of a token block. -/
def blkRow (t : Fin grid0.N) : Fin 16 := ⟨(grid0.coords t 0).val / 16, by have := coords_lt t; omega⟩

theorem modRow_tok (t : Fin grid0.N) (r : Fin 256) : modRow (tok t r) = blkRow t :=
  Fin.ext (by simp only [modRow, tok, blkRow]; omega)

theorem pos_tok (t : Fin grid0.N) (r : Fin 256) : (pos (tok t r)).val = (grid0.coords t 0).val % 16 * 256 + r.val := by
  simp only [pos, tok]
  omega

theorem blk0 (c : Dev nD) (t : Fin grid0.N) (r : Fin 256) (l : Fin 1024) :
    iblk m c 0 t (ix2 r l) = V m c main_arg0 (ix2 (tok t r) l) := by
  blk_ext! [iblk, idx t, tok]

theorem blk1 (c : Dev nD) (t : Fin grid0.N) (l : Fin 6144) :
    iblk m c 1 t (ix3 0 0 l) = V m c main_v58 (ix3 (blkRow t) 0 l) := by
  blk_ext! [iblk, idx t, blkRow]

theorem blk2 (c : Dev nD) (t : Fin grid0.N) (r : Fin 1) (l : Fin 1024) :
    iblk m c 2 t (ix2 r l) = V m c main_v50 (ix2 r l) := by
  blk_ext! [iblk, idx t]

theorem blk3 (c : Dev nD) (t : Fin grid0.N) (r : Fin 1024) (l : Fin 4224) :
    iblk m c 3 t (ix2 r l) = V m c main_v13 (ix2 r l) := by
  blk_ext! [iblk, idx t]

theorem blk4 (c : Dev nD) (t : Fin grid0.N) (r : Fin 1) (l : Fin 256) :
    iblk m c 4 t (ix2 r l) = V m c main_v51 (ix2 r l) := by
  blk_ext! [iblk, idx t]

theorem blk5 (c : Dev nD) (t : Fin grid0.N) (r : Fin 256) (l : Fin 1024) :
    iblk m c 5 t (ix2 r l) = V m c main_v53 (ix2 r l) := by
  blk_ext! [iblk, idx t]

theorem blk6 (c : Dev nD) (t : Fin grid0.N) (r : Fin 256) (l : Fin 1024) :
    iblk m c 6 t (ix2 r l) = V m c main_v54 (ix2 r l) := by
  blk_ext! [iblk, idx t]

theorem blk7 (c : Dev nD) (t : Fin grid0.N) (r : Fin 1) (l : Fin 128) :
    iblk m c 7 t (ix2 r l) = V m c main_v52 (ix2 r l) := by
  blk_ext! [iblk, idx t]

theorem blk8 (c : Dev nD) (t : Fin grid0.N) (r : Fin 128) (l : Fin 1024) :
    iblk m c 8 t (ix2 r l) = V m c main_v55 (ix2 r l) := by
  blk_ext! [iblk, idx t]

theorem blk9 (c : Dev nD) (t : Fin grid0.N) (r : Fin 128) (l : Fin 512) :
    iblk m c 9 t (ix2 r l) = V m c main_v56 (ix2 r l) := by
  blk_ext! [iblk, idx t]

theorem blk10 (c : Dev nD) (t : Fin grid0.N) (r : Fin 256) (l : Fin 512) :
    iblk m c 10 t (ix2 r l) = V m c main_v49 (ix2 r l) := by
  blk_ext! [iblk, idx t]

theorem blk11 (c : Dev nD) (t : Fin grid0.N) (r : Fin 1) (l : Fin 3072) :
    iblk m c 11 t (ix2 r l) = V m c main_v57 (ix2 r l) := by
  blk_ext! [iblk, idx t]

theorem blk12 (c : Dev nD) (t : Fin grid0.N) (r : Fin 256) (l : Fin 128) :
    iblk m c 12 t (ix2 r l) = V m c main_v95 (ix2 (pos (tok t r)) l) := by
  blk_ext! [iblk, idx t, pos_tok t r]

theorem blk13 (c : Dev nD) (t : Fin grid0.N) (r : Fin 256) (l : Fin 128) :
    iblk m c 13 t (ix2 r l) = V m c main_v98 (ix2 (pos (tok t r)) l) := by
  blk_ext! [iblk, idx t, pos_tok t r]

theorem blk14 (c : Dev nD) (t : Fin grid0.N) (r : Fin 256) (l : Fin 128) :
    iblk m c 14 t (ix2 r l) = V m c main_v99 (ix2 (pos (tok t r)) l) := by
  blk_ext! [iblk, idx t, pos_tok t r]

theorem blk15 (c : Dev nD) (t : Fin grid0.N) (r : Fin 256) (l : Fin 128) :
    iblk m c 15 t (ix2 r l) = V m c main_v100 (ix2 (pos (tok t r)) l) := by
  blk_ext! [iblk, idx t, pos_tok t r]

end Cert.InProj

end
-- ==== Proof.InProj.Final.lean ====
/-
  The six arrays that the input projection leaves: row `r` of each is what the token formulas give.
-/
module

public import proofs.«01_k».proof.Proof.InProj.Array

@[expose] public section

set_option maxRecDepth 16384

noncomputable section

namespace Cert.InProj

open Cert.Kernel3Ideal Cert.Kernel3Ideal.Gen Idealize.ShloMosaic Idealize.ShloMosaic.TcCoe Cert.Rows
open Idealize.ShloMosaic.Pipeline (Dat)
open Cert.OutProj (modRow)

variable (m : (ℓ : Loc nD τ sig) → Buf (Elt Ideal) ℓ)

theorem arg0 (c : Dev nD) : V m c main_arg0 = m ((c : Thread nD τ).loc main_arg0) := by
  rw [entry]
  after_reads_simp

theorem gainX (c : Dev nD) (l : Fin 1024) :
    (V m c main_v50 : S1x1024.Idx → EReal) (ix2 0 l) = (m ((c : Thread nD τ).loc main_arg2) : S1024.Idx → EReal) (ix1 l) := by
  rw [entry]
  after_reads_at
  first | rfl | done

theorem gainQ (c : Dev nD) (l : Fin 256) :
    (V m c main_v51 : S1x256.Idx → EReal) (ix2 0 l) = (m ((c : Thread nD τ).loc main_arg5) : S256.Idx → EReal) (ix1 l) := by
  rw [entry]
  after_reads_at
  first | rfl | done

theorem gainKV (c : Dev nD) (l : Fin 128) :
    (V m c main_v52 : S1x128.Idx → EReal) (ix2 0 l) = (m ((c : Thread nD τ).loc main_arg7) : S128.Idx → EReal) (ix1 l) := by
  rw [entry]
  after_reads_at
  first | rfl | done

theorem bias (c : Dev nD) (l : Fin 3072) :
    (V m c main_v57 : S1x3072.Idx → EReal) (ix2 0 l) = (m ((c : Thread nD τ).loc main_arg4) : S3072.Idx → EReal) (ix1 l) := by
  rw [entry]
  after_reads_at
  first | rfl | done

theorem modul (c : Dev nD) (b : Fin 16) (l : Fin 6144) :
    (V m c main_v58 : S16x1x6144.Idx → EReal) (ix3 b 0 l) = (m ((c : Thread nD τ).loc main_arg1) : S16x6144.Idx → EReal) (ix2 b l) := by
  rw [entry]
  after_reads_at
  first | rfl | done

/-- A block's row of the projection is the arrays' at the token. -/
theorem blockZ_eq (c : Dev nD) (t : Fin grid0.N) (r : Fin 256) :
    blockZ (iblk m c 0 t) (iblk m c 1 t) (iblk m c 2 t) (iblk m c 3 t) r = tokWall (m ((c : Thread nD τ).loc main_arg0)) (m ((c : Thread nD τ).loc main_arg1)) (m ((c : Thread nD τ).loc main_arg2)) (m ((c : Thread nD τ).loc main_arg3)) (tok t r) := by
  unfold blockZ tokWall tokHidden
  rw [modRow_tok]
  simp only [blk0, blk1, blk2, blk3,
    fun i d => weightWall_apply m c i d (fun e => m ((c : Thread nD τ).loc main_arg3) (ix2 i e)) (fun _ => rfl)]
  exact congr (congrArg dot (congr (congr (congrArg hidden (funext fun e => congrFun (arg0 m c) _))
    (funext fun e => gainX m c e)) (funext fun e => modul m c _ e))) rfl

/-- A block's latent row of keys and values is the token's. -/
theorem blockKV_eq (c : Dev nD) (t : Fin grid0.N) (r : Fin 256) :
    latentKV (by decide) (blockZ (iblk m c 0 t) (iblk m c 1 t) (iblk m c 2 t) (iblk m c 3 t) r) (fun e => iblk m c 7 t (ix2 0 e)) = tokKV (m ((c : Thread nD τ).loc main_arg0)) (m ((c : Thread nD τ).loc main_arg1)) (m ((c : Thread nD τ).loc main_arg2)) (m ((c : Thread nD τ).loc main_arg3)) (m ((c : Thread nD τ).loc main_arg7)) (tok t r) := by
  unfold tokKV
  rw [blockZ_eq]
  exact congrArg _ (funext fun e => (blk7 m c t 0 e).trans (gainKV m c e))

/-- A block's latent row of queries is the token's. -/
theorem blockQL_eq (c : Dev nD) (t : Fin grid0.N) (r : Fin 256) :
    latentQ (by decide) (blockZ (iblk m c 0 t) (iblk m c 1 t) (iblk m c 2 t) (iblk m c 3 t) r) (fun e => iblk m c 4 t (ix2 0 e)) = tokQL (m ((c : Thread nD τ).loc main_arg0)) (m ((c : Thread nD τ).loc main_arg1)) (m ((c : Thread nD τ).loc main_arg2)) (m ((c : Thread nD τ).loc main_arg3)) (m ((c : Thread nD τ).loc main_arg5)) (tok t r) := by
  unfold tokQL
  rw [blockZ_eq]
  exact congrArg _ (funext fun e => (blk4 m c t 0 e).trans (gainQ m c e))

/-- Where an output block's element lies, in the array. -/
theorem place16 (t : Fin grid0.N) (y0 : Fin 256) (y1 : Fin 1024) :
    (((View.whole main_v101_0).slice (win0_16.rect t)).emb (ix2 y0 y1) : S16384x1024.Idx) = ix2 (tok t y0) y1 := by
  blk_ext [idx t, tok]

/-- The array of keys after the run. -/
theorem final16 (c : Dev nD) : (dats m 0 c).arrAt 16 cfg0.N = fun i : S16384x1024.Idx => tokK (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (i 0) (i 1) := by
  refine (dats m 0 c).arrAt_eq_of_covers 16 _ (by decide +kernel) fun t hf y => ?_
  blk_simp
  rw [after0_16]
  idx_vars y
  rw [place16, out16_apply]
  rw [blockKV_eq, blockZ_eq]
  exact congr (congrArg HAdd.hAdd (congrFun (congrArg _ (funext fun i => funext fun j => (blk8 m c t i j).trans (weightK_apply m c i j))) y1))
    (congr (congrArg HAdd.hAdd (congrArg _ ((blk14 m c t y0 (lane y1)).trans (cosKeys_apply m c _ _))))
      (congrArg _ ((blk15 m c t y0 (lane y1)).trans (sinKeys_apply m c _ _))))

/-- Where an output block's element lies, in the array. -/
theorem place17 (t : Fin grid0.N) (y0 : Fin 256) (y1 : Fin 512) :
    (((View.whole main_v101_1).slice (win0_17.rect t)).emb (ix2 y0 y1) : S16384x512.Idx) = ix2 (tok t y0) y1 := by
  blk_ext [idx t, tok]

/-- The array of values after the run. -/
theorem final17 (c : Dev nD) : (dats m 0 c).arrAt 17 cfg0.N = fun i : S16384x512.Idx => tokV (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (i 0) (i 1) := by
  refine (dats m 0 c).arrAt_eq_of_covers 17 _ (by decide +kernel) fun t hf y => ?_
  blk_simp
  rw [after0_17]
  idx_vars y
  rw [place17, out17_apply]
  rw [blockKV_eq]
  exact congrFun (congrArg _ (funext fun i => funext fun j => (blk9 m c t i j).trans (weightV_apply m c i j))) y1

/-- Where an output block's element lies, in the array. -/
theorem place18 (t : Fin grid0.N) (y0 : Fin 256) (y1 : Fin 1024) :
    (((View.whole main_v101_2).slice (win0_18.rect t)).emb (ix2 y0 y1) : S16384x1024.Idx) = ix2 (tok t y0) y1 := by
  blk_ext [idx t, tok]

/-- The array of queries after the run. -/
theorem final18 (c : Dev nD) : (dats m 0 c).arrAt 18 cfg0.N = fun i : S16384x1024.Idx => tokQ (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (i 0) (i 1) := by
  refine (dats m 0 c).arrAt_eq_of_covers 18 _ (by decide +kernel) fun t hf y => ?_
  blk_simp
  rw [after0_18]
  idx_vars y
  rw [place18, out18_apply]
  rw [blockQL_eq]
  exact congr (congrArg HAdd.hAdd (congr (congrArg HMul.hMul (congrFun (congrArg _ (funext fun i => funext fun j =>
      (blk5 m c t i j).trans (weightQ_apply m c i j))) y1)) ((blk12 m c t y0 (lane y1)).trans (cosQueries_apply m c _ _))))
    (congr (congrArg HMul.hMul (congrFun (congrArg _ (funext fun i => funext fun j =>
      (blk6 m c t i j).trans (weightQP_apply m c i j (fun e => m ((c : Thread nD τ).loc main_arg6) (ix2 i e)) fun _ => rfl))) y1))
      ((blk13 m c t y0 (lane y1)).trans (sinQueries_apply m c _ _)))

/-- Where an output block's element lies, in the array. -/
theorem place19 (t : Fin grid0.N) (y0 : Fin 256) (y1 : Fin 512) :
    (((View.whole main_v101_3).slice (win0_19.rect t)).emb (ix2 y0 y1) : S16384x512.Idx) = ix2 (tok t y0) y1 := by
  blk_ext [idx t, tok]

/-- The array of the channel transform after the run. -/
theorem final19 (c : Dev nD) : (dats m 0 c).arrAt 19 cfg0.N = fun i : S16384x512.Idx => tokF (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 19 _ (by decide +kernel) fun t hf y => ?_
  blk_simp
  rw [after0_19]
  idx_vars y
  rw [place19, out19_apply]
  rw [blockZ_eq]
  exact congrFun (congrArg _ (funext fun i => funext fun j => (blk10 m c t i j).trans (channel_apply m c i j))) y1

/-- Where an output block's element lies, in the array. -/
theorem place20 (t : Fin grid0.N) (y0 : Fin 256) (y1 : Fin 256) :
    (((View.whole main_v101_4).slice (win0_20.rect t)).emb (ix2 y0 y1) : S16384x256.Idx) = ix2 (tok t y0) y1 := by
  blk_ext [idx t, tok]

/-- The array of the pooled branch's input after the run. -/
theorem final20 (c : Dev nD) : (dats m 0 c).arrAt 20 cfg0.N = fun i : S16384x256.Idx => tokP (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 20 _ (by decide +kernel) fun t hf y => ?_
  blk_simp
  rw [after0_20]
  idx_vars y
  rw [place20, out20_apply]
  rw [blockZ_eq]
  rfl

/-- Where an output block's element lies, in the array. -/
theorem place21 (t : Fin grid0.N) (y0 : Fin 256) (y1 : Fin 3072) :
    (((View.whole main_v101_5).slice (win0_21.rect t)).emb (ix2 y0 y1) : S16384x3072.Idx) = ix2 (tok t y0) y1 := by
  blk_ext [idx t, tok]

/-- The array of gates after the run. -/
theorem final21 (c : Dev nD) : (dats m 0 c).arrAt 21 cfg0.N = fun i : S16384x3072.Idx => tokG (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 21 _ (by decide +kernel) fun t hf y => ?_
  blk_simp
  rw [after0_21]
  idx_vars y
  rw [place21, out21_apply]
  rw [blockZ_eq]
  exact congrArg Ideal.logistic (congrArg _ ((blk11 m c t 0 y1).trans (bias m c y1)))

end Cert.InProj

end
-- ==== Proof.InProj.Reference.lean ====
/-
  What the reference computes of a token, at an index: its projection, its latent rows, and the results that hold no rotated lane.
-/
module

public import proofs.«01_k».proof.Proof.Gen.Reference3Ideal.Read
public import proofs.«01_k».proof.Proof.InProj.Tokens

@[expose] public section

set_option maxRecDepth 16384

noncomputable section

namespace Cert.InProj

open Cert.Reference3Ideal Cert.Reference3Ideal.Gen Cert.Reference3Ideal.Read Idealize.ShloMosaic Idealize.ShloMosaic.TcCoe Cert.Rows
open Cert.OutProj (modRow)

variable (x0 : FVec Ideal S16384x1024 .f32) (x1 : FVec Ideal S16x6144 .f32) (x2 : FVec Ideal S1024 .f32)
  (x3 : FVec Ideal S1024x4000 .f32) (x4 : FVec Ideal S3072 .f32) (x5 : FVec Ideal S256 .f32) (x6 : FVec Ideal S256x768 .f32)
  (x7 : FVec Ideal S128 .f32) (x8 : FVec Ideal S128x1024 .f32)

/-- The flat row of token `s` of batch `b`. -/
def row (b : Fin 4) (s : Fin 4096) : Fin 16384 := ⟨b.val * 4096 + s.val, by omega⟩

theorem modRow_row (b : Fin 4) (s : Fin 4096) : modRow (row b s) = ⟨b.val, by omega⟩ :=
  Fin.ext (by simp only [modRow, row]; omega)

theorem pos_row (b : Fin 4) (s : Fin 4096) : pos (row b s) = s :=
  Fin.ext (by simp only [pos, row]; omega)

/-- Every flat row is a token's. -/
theorem row_surj (r : Fin 16384) : ∃ b s, r = row b s :=
  ⟨⟨r.val / 4096, by omega⟩, ⟨r.val % 4096, by omega⟩, Fin.ext (by simp only [row]; omega)⟩

/-- A token's projection, in the order of the weights. -/
def tokZ (r : Fin 16384) : Fin 4000 → EReal := dot (tokHidden x0 x1 x2 r) (fun i j => x3 (ix2 i j))

/-- The modulation's shift and scale of a token. -/
theorem ref_mod (b : Fin 4) (s : Fin 4096) (d : Fin 1024) :
    val_main_v26 (F := Ideal) x1 (ix3 b s d) = x1 (ix2 (modRow (row b s)) ⟨d.val, by omega⟩)
    ∧ val_main_v24 (F := Ideal) x1 (ix3 b s d)
      = Ideal.ofBits .f32 0x3F800000#32 + x1 (ix2 (modRow (row b s)) ⟨1024 + d.val, by omega⟩) := by
  rw [modRow_row]
  refine ⟨?_, ?_⟩
  · pointwise [val_main_v26, val_main_v2, val_main_v1, val_main_v0]
  · pointwise [val_main_v24, val_main_v23, val_main_v22, val_main_cst_2, val_main_v3, val_main_v1, val_main_v0]

/-- A normed row of the tokens. -/
theorem ref_normed (b : Fin 4) (s : Fin 4096) (d : Fin 1024) :
    val_main_v21 (F := Ideal) x0 x2 (ix3 b s d)
      = normed 0x44800000#32 (fun e => val_main_v8 (F := Ideal) x0 (ix3 b s e)) (fun e => x2 (ix1 e)) d := by
  unfold val_main_v21 val_main_v18 val_main_v17 val_main_v16 val_main_v15 val_main_v13 val_main_v11 val_main_v10 val_main_v9
    normed unit
  generalize val_main_v8 (F := Ideal) x0 = y
  pointwise [val_main_v20, val_main_v19, val_main_v14, val_main_cst_1, val_main_v12, val_main_cst_0, val_main_cst]

/-- A token's modulated norm. -/
theorem ref_hidden (b : Fin 4) (s : Fin 4096) (d : Fin 1024) :
    val_main_v27 (F := Ideal) x0 x1 x2 (ix3 b s d) = tokHidden x0 x1 x2 (row b s) d := by
  obtain ⟨e1, e2⟩ := ref_mod x1 b s d
  have e : ∀ e, val_main_v8 (F := Ideal) x0 (ix3 b s e) = x0 (ix2 (row b s) e) := fun e => by
    unfold row
    pointwise [val_main_v8]
  rw [val_main_v27_apply, val_main_v25_apply, ref_normed, e1, e2]
  simp only [e]
  rfl

/-- A token's projection. -/
theorem ref_z (b : Fin 4) (s : Fin 4096) (d : Fin 4000) :
    val_main_v52 (F := Ideal) x0 x1 x2 x3 (ix3 b s d) = tokZ x0 x1 x2 x3 (row b s) d := by
  unfold val_main_v52 tokZ dot
  simp only [← ref_hidden]
  generalize val_main_v27 (F := Ideal) x0 x1 x2 = y
  pointwise

/-- The latent row of the queries. -/
theorem ref_cq (b : Fin 4) (s : Fin 4096) (d : Fin 256) :
    val_main_v71 (F := Ideal) x0 x1 x2 x3 x5 (ix3 b s d)
      = latentQ (by decide) (tokZ x0 x1 x2 x3 (row b s)) (fun e => x5 (ix1 e)) d := by
  have e : ∀ e : Fin 256, val_main_v53 (F := Ideal) x0 x1 x2 x3 (ix3 b s e) = tokZ x0 x1 x2 x3 (row b s) ⟨e.val, by omega⟩ := fun e => by
    rw [← ref_z]
    unfold val_main_v53
    generalize val_main_v52 (F := Ideal) x0 x1 x2 x3 = y
    pointwise
  unfold latentQ
  simp only [← e]
  unfold val_main_v71 val_main_v68 val_main_v67 val_main_v66 val_main_v65 val_main_v63 val_main_v61 val_main_v60 val_main_v59
    normed unit
  generalize val_main_v53 (F := Ideal) x0 x1 x2 x3 = y
  pointwise [val_main_v70, val_main_v69, val_main_v64, val_main_cst_9, val_main_v62, val_main_cst_8, val_main_cst_7]

/-- The latent row of the keys and values. -/
theorem ref_ckv (b : Fin 4) (s : Fin 4096) (d : Fin 128) :
    val_main_v132 (F := Ideal) x0 x1 x2 x3 x7 (ix3 b s d)
      = latentKV (by decide) (tokZ x0 x1 x2 x3 (row b s)) (fun e => x7 (ix1 e)) d := by
  have e : ∀ e : Fin 128, val_main_v54 (F := Ideal) x0 x1 x2 x3 (ix3 b s e) = tokZ x0 x1 x2 x3 (row b s) ⟨256 + e.val, by omega⟩ := fun e => by
    rw [← ref_z]
    unfold val_main_v54
    generalize val_main_v52 (F := Ideal) x0 x1 x2 x3 = y
    pointwise
  unfold latentKV
  simp only [← e]
  unfold val_main_v132 val_main_v129 val_main_v128 val_main_v127 val_main_v126 val_main_v124 val_main_v122 val_main_v121 val_main_v120
    normed unit
  generalize val_main_v54 (F := Ideal) x0 x1 x2 x3 = y
  pointwise [val_main_v131, val_main_v130, val_main_v125, val_main_cst_13, val_main_v123, val_main_cst_12, val_main_cst_11]

/-- The queries, before their rotation. -/
theorem ref_q (b : Fin 4) (s : Fin 4096) (d : Fin 768) :
    val_main_v72 (F := Ideal) x0 x1 x2 x3 x5 x6 (ix3 b s d)
      = dot (latentQ (by decide) (tokZ x0 x1 x2 x3 (row b s)) (fun e => x5 (ix1 e))) (fun i j => x6 (ix2 i j)) d := by
  unfold val_main_v72 dot
  simp only [← ref_cq]
  generalize val_main_v71 (F := Ideal) x0 x1 x2 x3 x5 = y
  pointwise

/-- The keys and values of the latent row. -/
theorem ref_kv (b : Fin 4) (s : Fin 4096) (d : Fin 1024) :
    val_main_v133 (F := Ideal) x0 x1 x2 x3 x7 x8 (ix3 b s d)
      = dot (latentKV (by decide) (tokZ x0 x1 x2 x3 (row b s)) (fun e => x7 (ix1 e))) (fun i j => x8 (ix2 i j)) d := by
  unfold val_main_v133 dot
  simp only [← ref_ckv]
  generalize val_main_v132 (F := Ideal) x0 x1 x2 x3 x7 = y
  pointwise

/-- The values. -/
theorem ref_v (b : Fin 4) (s : Fin 4096) (d : Fin 512) :
    val_main_v210 (F := Ideal) x0 x1 x2 x3 x7 x8 (ix2 (row b s) d)
      = dot (latentKV (by decide) (tokZ x0 x1 x2 x3 (row b s)) (fun e => x7 (ix1 e))) (fun i j => x8 (ix2 i j))
        ⟨d.val / 64 * 128 + 64 + d.val % 64, by omega⟩ := by
  rw [← ref_kv]
  unfold val_main_v210 val_main_v209 val_main_v136 val_main_v134 row
  generalize val_main_v133 (F := Ideal) x0 x1 x2 x3 x7 x8 = y
  pointwise
  exact congrArg y (congrArg (ix3 b s) (Fin.ext (Nat.add_assoc _ _ _).symm))

/-- The pooled branch's input. -/
theorem ref_p (b : Fin 4) (s : Fin 4096) (d : Fin 256) :
    val_main_v216 (F := Ideal) x0 x1 x2 x3 (ix2 (row b s) d) = tokZ x0 x1 x2 x3 (row b s) ⟨672 + d.val, by omega⟩ := by
  rw [← ref_z]
  unfold val_main_v216 val_main_v57 row
  generalize val_main_v52 (F := Ideal) x0 x1 x2 x3 = y
  pointwise

/-- The gates. -/
theorem ref_g (b : Fin 4) (s : Fin 4096) (d : Fin 3072) :
    val_main_v218 (F := Ideal) x0 x1 x2 x3 x4 (ix2 (row b s) d)
      = Ideal.div (Ideal.ofBits .f32 0x3F800000#32) (Ideal.ofBits .f32 0x3F800000#32
        + Ideal.exp (-(tokZ x0 x1 x2 x3 (row b s) ⟨928 + d.val, by omega⟩ + x4 (ix1 d)))) := by
  rw [← ref_z]
  unfold val_main_v218 val_main_v217 val_main_v189 val_main_v187 val_main_v185 val_main_v184 val_main_v183 val_main_v58 row
  generalize val_main_v52 (F := Ideal) x0 x1 x2 x3 = y
  pointwise [val_main_v188, val_main_cst_15, val_main_v186, val_main_cst_14, val_main_v182, val_main_v181]

end Cert.InProj

end
-- ==== Proof.InProj.RefRotary.lean ====
/-
  The rotated queries and keys of the reference, at an index.
-/
module

public import proofs.«01_k».proof.Proof.InProj.Reference

@[expose] public section

set_option maxRecDepth 16384

noncomputable section

namespace Cert.InProj

open Cert.Reference3Ideal Cert.Reference3Ideal.Gen Cert.Reference3Ideal.Read Idealize.ShloMosaic Idealize.ShloMosaic.TcCoe Cert.Rows
open Cert.OutProj (modRow)

variable (x0 : FVec Ideal S16384x1024 .f32) (x1 : FVec Ideal S16x6144 .f32) (x2 : FVec Ideal S1024 .f32)
  (x3 : FVec Ideal S1024x4000 .f32) (x4 : FVec Ideal S3072 .f32) (x5 : FVec Ideal S256 .f32) (x6 : FVec Ideal S256x768 .f32)
  (x7 : FVec Ideal S128 .f32) (x8 : FVec Ideal S128x1024 .f32)

/-- The rotary frequencies. -/
theorem ref_freq (f : Fin 8) : val_main_v41 (F := Ideal) (ix1 f) = invFreq f := by
  unfold invFreq
  pointwise [val_main_v41, val_main_v40, val_main_cst_6, val_main_v39, val_main_v38, val_main_cst_5, val_main_v37, val_main_v36,
    val_main_v35, val_main_cst_4, val_main_v34, val_main_v33, val_main_cst_3, val_main_v32]

/-- The angles by rows. -/
theorem ref_rowAngle (s : Fin 4096) (f : Fin 8) : val_main_v46 (F := Ideal) (ix3 s 0 f) = angle (s.val / 64) f := by
  unfold angle
  rw [← ref_freq]
  unfold val_main_v46 val_main_v45 val_main_v43
  generalize val_main_v41 (F := Ideal) = y
  pointwise [val_main_v44, val_main_v42, val_main_v30, val_main_v28]

/-- The angles by columns. -/
theorem ref_colAngle (s : Fin 4096) (f : Fin 8) : val_main_v51 (F := Ideal) (ix3 s 0 f) = angle (s.val % 64) f := by
  unfold angle
  rw [← ref_freq]
  unfold val_main_v51 val_main_v50 val_main_v48
  generalize val_main_v41 (F := Ideal) = y
  pointwise [val_main_v49, val_main_v47, val_main_v31, val_main_v29]

/-- A rotated row of 32 lanes: pairs of lanes eight apart turn by their angle. -/
def rotary (y : Fin 32 → EReal) (s : ℕ) (l : Fin 32) : EReal :=
  if h : l.val % 16 < 8 then y l * Ideal.cos (laneAngle s l) - y ⟨l.val + 8, by omega⟩ * Ideal.sin (laneAngle s l)
  else y ⟨l.val - 8, by omega⟩ * Ideal.sin (laneAngle s l) + y l * Ideal.cos (laneAngle s l)

theorem rotary_lo (y : Fin 32 → EReal) (s : ℕ) (l : Fin 32) (h : l.val % 16 < 8) :
    rotary y s l = y l * Ideal.cos (laneAngle s l) - y ⟨l.val + 8, by omega⟩ * Ideal.sin (laneAngle s l) := dif_pos h

theorem rotary_hi (y : Fin 32 → EReal) (s : ℕ) (l : Fin 32) (h : ¬ l.val % 16 < 8) :
    rotary y s l = y ⟨l.val - 8, by omega⟩ * Ideal.sin (laneAngle s l) + y l * Ideal.cos (laneAngle s l) := dif_neg h

theorem laneAngle_row (s : ℕ) (l : Fin 32) (f : Fin 8) (h : l.val < 16) (hf : l.val % 8 = f.val) : laneAngle s l = angle (s / 64) f :=
  (if_pos h).trans (congrArg _ (Fin.ext hf))

theorem laneAngle_col (s : ℕ) (l : Fin 32) (f : Fin 8) (h : ¬ l.val < 16) (hf : l.val % 8 = f.val) : laneAngle s l = angle (s % 64) f :=
  (if_neg h).trans (congrArg _ (Fin.ext hf))

/-- A rotated row from its four groups of eight lanes. -/
theorem rotary_groups (y : Fin 32 → EReal) (s : ℕ) (p0 p1 p2 p3 : Fin 8 → EReal)
    (g0 : ∀ i, p0 i = y ⟨i.val, by omega⟩ * Ideal.cos (angle (s / 64) i) - y ⟨8 + i.val, by omega⟩ * Ideal.sin (angle (s / 64) i))
    (g1 : ∀ i, p1 i = y ⟨i.val, by omega⟩ * Ideal.sin (angle (s / 64) i) + y ⟨8 + i.val, by omega⟩ * Ideal.cos (angle (s / 64) i))
    (g2 : ∀ i, p2 i = y ⟨16 + i.val, by omega⟩ * Ideal.cos (angle (s % 64) i) - y ⟨24 + i.val, by omega⟩ * Ideal.sin (angle (s % 64) i))
    (g3 : ∀ i, p3 i = y ⟨16 + i.val, by omega⟩ * Ideal.sin (angle (s % 64) i) + y ⟨24 + i.val, by omega⟩ * Ideal.cos (angle (s % 64) i))
    (l : Fin 32) :
    (if h1 : l.val < 16 then if h2 : l.val < 8 then p0 ⟨l.val, by omega⟩ else p1 ⟨l.val - 8, by omega⟩
      else if h2 : l.val - 16 < 8 then p2 ⟨l.val - 16, by omega⟩ else p3 ⟨l.val - 16 - 8, by omega⟩) = rotary y s l := by
  have hy : ∀ (a b : Fin 32), a.val = b.val → y a = y b := fun a b h => congrArg y (Fin.ext h)
  split_ifs with h1 h2 h2
  · rw [g0, rotary_lo y s l (by omega), laneAngle_row s l ⟨l.val, by omega⟩ h1 (by dsimp only <;> omega),
      hy ⟨8 + l.val, by omega⟩ ⟨l.val + 8, by omega⟩ (by dsimp only <;> omega)]
  · rw [g1, rotary_hi y s l (by omega), laneAngle_row s l ⟨l.val - 8, by omega⟩ h1 (by dsimp only <;> omega),
      hy ⟨8 + (l.val - 8), by omega⟩ l (by dsimp only <;> omega)]
  · rw [g2, rotary_lo y s l (by omega), laneAngle_col s l ⟨l.val - 16, by omega⟩ h1 (by dsimp only <;> omega),
      hy ⟨16 + (l.val - 16), by omega⟩ l (by dsimp only <;> omega), hy ⟨24 + (l.val - 16), by omega⟩ ⟨l.val + 8, by omega⟩ (by dsimp only <;> omega)]
  · rw [g3, rotary_hi y s l (by omega), laneAngle_col s l ⟨l.val - 16 - 8, by omega⟩ h1 (by dsimp only <;> omega),
      hy ⟨16 + (l.val - 16 - 8), by omega⟩ ⟨l.val - 8, by omega⟩ (by dsimp only <;> omega), hy ⟨24 + (l.val - 16 - 8), by omega⟩ l (by dsimp only <;> omega)]

/-- The reference's rotated queries: group 0 of the four groups of eight lanes. -/
theorem ref_q_group0 (b : Fin 4) (s : Fin 4096) (h : Fin 8) (i : Fin 8) :
    val_main_v88 (F := Ideal) x0 x1 x2 x3 x5 x6 (ix4 b s h i)
      = val_main_v72 (F := Ideal) x0 x1 x2 x3 x5 x6 (ix3 b s ⟨h.val * 96 + (64 + i.val), by omega⟩) * Ideal.cos (val_main_v46 (F := Ideal) (ix3 s 0 i))
        - val_main_v72 (F := Ideal) x0 x1 x2 x3 x5 x6 (ix3 b s ⟨h.val * 96 + (64 + (8 + i.val)), by omega⟩) * Ideal.sin (val_main_v46 (F := Ideal) (ix3 s 0 i)) := by
  unfold val_main_v88 val_main_v84 val_main_v87 val_main_v78 val_main_v79 val_main_v76 val_main_v75 val_main_v73
  generalize val_main_v72 (F := Ideal) x0 x1 x2 x3 x5 x6 = y
  pointwise [val_main_v83, val_main_v82, val_main_v80, val_main_v86, val_main_v85, val_main_v81]

/-- The reference's rotated queries: group 1 of the four groups of eight lanes. -/
theorem ref_q_group1 (b : Fin 4) (s : Fin 4096) (h : Fin 8) (i : Fin 8) :
    val_main_v95 (F := Ideal) x0 x1 x2 x3 x5 x6 (ix4 b s h i)
      = val_main_v72 (F := Ideal) x0 x1 x2 x3 x5 x6 (ix3 b s ⟨h.val * 96 + (64 + i.val), by omega⟩) * Ideal.sin (val_main_v46 (F := Ideal) (ix3 s 0 i))
        + val_main_v72 (F := Ideal) x0 x1 x2 x3 x5 x6 (ix3 b s ⟨h.val * 96 + (64 + (8 + i.val)), by omega⟩) * Ideal.cos (val_main_v46 (F := Ideal) (ix3 s 0 i)) := by
  unfold val_main_v95 val_main_v91 val_main_v94 val_main_v78 val_main_v79 val_main_v76 val_main_v75 val_main_v73
  generalize val_main_v72 (F := Ideal) x0 x1 x2 x3 x5 x6 = y
  pointwise [val_main_v90, val_main_v89, val_main_v81, val_main_v93, val_main_v92, val_main_v80]

/-- The reference's rotated queries: group 2 of the four groups of eight lanes. -/
theorem ref_q_group2 (b : Fin 4) (s : Fin 4096) (h : Fin 8) (i : Fin 8) :
    val_main_v107 (F := Ideal) x0 x1 x2 x3 x5 x6 (ix4 b s h i)
      = val_main_v72 (F := Ideal) x0 x1 x2 x3 x5 x6 (ix3 b s ⟨h.val * 96 + (64 + (16 + i.val)), by omega⟩) * Ideal.cos (val_main_v51 (F := Ideal) (ix3 s 0 i))
        - val_main_v72 (F := Ideal) x0 x1 x2 x3 x5 x6 (ix3 b s ⟨h.val * 96 + (64 + (24 + i.val)), by omega⟩) * Ideal.sin (val_main_v51 (F := Ideal) (ix3 s 0 i)) := by
  unfold val_main_v107 val_main_v103 val_main_v106 val_main_v97 val_main_v98 val_main_v77 val_main_v75 val_main_v73
  generalize val_main_v72 (F := Ideal) x0 x1 x2 x3 x5 x6 = y
  have e : (⟨h.val * 96 + (64 + (16 + (8 + i.val))), by omega⟩ : Fin 768) = ⟨h.val * 96 + (64 + (24 + i.val)), by omega⟩ := Fin.ext (by dsimp only <;> omega)
  rw [← e]
  pointwise [val_main_v102, val_main_v101, val_main_v99, val_main_v105, val_main_v104, val_main_v100]

/-- The reference's rotated queries: group 3 of the four groups of eight lanes. -/
theorem ref_q_group3 (b : Fin 4) (s : Fin 4096) (h : Fin 8) (i : Fin 8) :
    val_main_v114 (F := Ideal) x0 x1 x2 x3 x5 x6 (ix4 b s h i)
      = val_main_v72 (F := Ideal) x0 x1 x2 x3 x5 x6 (ix3 b s ⟨h.val * 96 + (64 + (16 + i.val)), by omega⟩) * Ideal.sin (val_main_v51 (F := Ideal) (ix3 s 0 i))
        + val_main_v72 (F := Ideal) x0 x1 x2 x3 x5 x6 (ix3 b s ⟨h.val * 96 + (64 + (24 + i.val)), by omega⟩) * Ideal.cos (val_main_v51 (F := Ideal) (ix3 s 0 i)) := by
  unfold val_main_v114 val_main_v110 val_main_v113 val_main_v97 val_main_v98 val_main_v77 val_main_v75 val_main_v73
  generalize val_main_v72 (F := Ideal) x0 x1 x2 x3 x5 x6 = y
  have e : (⟨h.val * 96 + (64 + (16 + (8 + i.val))), by omega⟩ : Fin 768) = ⟨h.val * 96 + (64 + (24 + i.val)), by omega⟩ := Fin.ext (by dsimp only <;> omega)
  rw [← e]
  pointwise [val_main_v109, val_main_v108, val_main_v100, val_main_v112, val_main_v111, val_main_v99]

/-- The rotated lanes of the queries. -/
theorem ref_q_rotary (b : Fin 4) (s : Fin 4096) (h : Fin 8) (l : Fin 32) :
    val_main_v116 (F := Ideal) x0 x1 x2 x3 x5 x6 (ix4 b s h l)
      = rotary (fun e => val_main_v72 (F := Ideal) x0 x1 x2 x3 x5 x6 (ix3 b s ⟨h.val * 96 + (64 + e.val), by omega⟩)) s.val l := by
  have g0 := ref_q_group0 x0 x1 x2 x3 x5 x6 b s h
  have g1 := ref_q_group1 x0 x1 x2 x3 x5 x6 b s h
  have g2 := ref_q_group2 x0 x1 x2 x3 x5 x6 b s h
  have g3 := ref_q_group3 x0 x1 x2 x3 x5 x6 b s h
  simp only [ref_rowAngle, ref_colAngle] at g0 g1 g2 g3
  refine Eq.trans ?_ (rotary_groups _ s.val _ _ _ _ g0 g1 g2 g3 l)
  clear g0 g1 g2 g3
  unfold val_main_v116 val_main_v96 val_main_v115
  generalize val_main_v88 (F := Ideal) x0 x1 x2 x3 x5 x6 = p0
  generalize val_main_v95 (F := Ideal) x0 x1 x2 x3 x5 x6 = p1
  generalize val_main_v107 (F := Ideal) x0 x1 x2 x3 x5 x6 = p2
  generalize val_main_v114 (F := Ideal) x0 x1 x2 x3 x5 x6 = p3
  pointwise

/-- The reference's rotated keys: group 0 of the four groups of eight lanes. -/
theorem ref_k_group0 (b : Fin 4) (s : Fin 4096)  (i : Fin 8) :
    val_main_v150 (F := Ideal) x0 x1 x2 x3 (ix4 b s 0 i)
      = val_main_v52 (F := Ideal) x0 x1 x2 x3 (ix3 b s ⟨384 + i.val, by omega⟩) * Ideal.cos (val_main_v46 (F := Ideal) (ix3 s 0 i))
        - val_main_v52 (F := Ideal) x0 x1 x2 x3 (ix3 b s ⟨384 + (8 + i.val), by omega⟩) * Ideal.sin (val_main_v46 (F := Ideal) (ix3 s 0 i)) := by
  unfold val_main_v150 val_main_v146 val_main_v149 val_main_v140 val_main_v141 val_main_v138 val_main_v137 val_main_v55
  generalize val_main_v52 (F := Ideal) x0 x1 x2 x3 = y
  pointwise [val_main_v145, val_main_v144, val_main_v142, val_main_v148, val_main_v147, val_main_v143]

/-- The reference's rotated keys: group 1 of the four groups of eight lanes. -/
theorem ref_k_group1 (b : Fin 4) (s : Fin 4096)  (i : Fin 8) :
    val_main_v157 (F := Ideal) x0 x1 x2 x3 (ix4 b s 0 i)
      = val_main_v52 (F := Ideal) x0 x1 x2 x3 (ix3 b s ⟨384 + i.val, by omega⟩) * Ideal.sin (val_main_v46 (F := Ideal) (ix3 s 0 i))
        + val_main_v52 (F := Ideal) x0 x1 x2 x3 (ix3 b s ⟨384 + (8 + i.val), by omega⟩) * Ideal.cos (val_main_v46 (F := Ideal) (ix3 s 0 i)) := by
  unfold val_main_v157 val_main_v153 val_main_v156 val_main_v140 val_main_v141 val_main_v138 val_main_v137 val_main_v55
  generalize val_main_v52 (F := Ideal) x0 x1 x2 x3 = y
  pointwise [val_main_v152, val_main_v151, val_main_v143, val_main_v155, val_main_v154, val_main_v142]

/-- The reference's rotated keys: group 2 of the four groups of eight lanes. -/
theorem ref_k_group2 (b : Fin 4) (s : Fin 4096)  (i : Fin 8) :
    val_main_v169 (F := Ideal) x0 x1 x2 x3 (ix4 b s 0 i)
      = val_main_v52 (F := Ideal) x0 x1 x2 x3 (ix3 b s ⟨384 + (16 + i.val), by omega⟩) * Ideal.cos (val_main_v51 (F := Ideal) (ix3 s 0 i))
        - val_main_v52 (F := Ideal) x0 x1 x2 x3 (ix3 b s ⟨384 + (24 + i.val), by omega⟩) * Ideal.sin (val_main_v51 (F := Ideal) (ix3 s 0 i)) := by
  unfold val_main_v169 val_main_v165 val_main_v168 val_main_v159 val_main_v160 val_main_v139 val_main_v137 val_main_v55
  generalize val_main_v52 (F := Ideal) x0 x1 x2 x3 = y
  have e : (⟨384 + (16 + (8 + i.val)), by omega⟩ : Fin 4000) = ⟨384 + (24 + i.val), by omega⟩ := Fin.ext (by dsimp only <;> omega)
  rw [← e]
  pointwise [val_main_v164, val_main_v163, val_main_v161, val_main_v167, val_main_v166, val_main_v162]

/-- The reference's rotated keys: group 3 of the four groups of eight lanes. -/
theorem ref_k_group3 (b : Fin 4) (s : Fin 4096)  (i : Fin 8) :
    val_main_v176 (F := Ideal) x0 x1 x2 x3 (ix4 b s 0 i)
      = val_main_v52 (F := Ideal) x0 x1 x2 x3 (ix3 b s ⟨384 + (16 + i.val), by omega⟩) * Ideal.sin (val_main_v51 (F := Ideal) (ix3 s 0 i))
        + val_main_v52 (F := Ideal) x0 x1 x2 x3 (ix3 b s ⟨384 + (24 + i.val), by omega⟩) * Ideal.cos (val_main_v51 (F := Ideal) (ix3 s 0 i)) := by
  unfold val_main_v176 val_main_v172 val_main_v175 val_main_v159 val_main_v160 val_main_v139 val_main_v137 val_main_v55
  generalize val_main_v52 (F := Ideal) x0 x1 x2 x3 = y
  have e : (⟨384 + (16 + (8 + i.val)), by omega⟩ : Fin 4000) = ⟨384 + (24 + i.val), by omega⟩ := Fin.ext (by dsimp only <;> omega)
  rw [← e]
  pointwise [val_main_v171, val_main_v170, val_main_v162, val_main_v174, val_main_v173, val_main_v161]

/-- The rotated lanes of the keys. -/
theorem ref_k_rotary (b : Fin 4) (s : Fin 4096)  (l : Fin 32) :
    val_main_v178 (F := Ideal) x0 x1 x2 x3 (ix4 b s 0 l)
      = rotary (fun e => val_main_v52 (F := Ideal) x0 x1 x2 x3 (ix3 b s ⟨384 + e.val, by omega⟩)) s.val l := by
  have g0 := ref_k_group0 x0 x1 x2 x3 b s
  have g1 := ref_k_group1 x0 x1 x2 x3 b s
  have g2 := ref_k_group2 x0 x1 x2 x3 b s
  have g3 := ref_k_group3 x0 x1 x2 x3 b s
  simp only [ref_rowAngle, ref_colAngle] at g0 g1 g2 g3
  refine Eq.trans ?_ (rotary_groups _ s.val _ _ _ _ g0 g1 g2 g3 l)
  clear g0 g1 g2 g3
  unfold val_main_v178 val_main_v158 val_main_v177
  generalize val_main_v150 (F := Ideal) x0 x1 x2 x3 = p0
  generalize val_main_v157 (F := Ideal) x0 x1 x2 x3 = p1
  generalize val_main_v169 (F := Ideal) x0 x1 x2 x3 = p2
  generalize val_main_v176 (F := Ideal) x0 x1 x2 x3 = p3
  pointwise

/-- The queries of a head's lanes: 64 plain, 32 rotated. -/
theorem ref_q_lane (b : Fin 4) (s : Fin 4096) (h : Fin 8) (l : Fin 128) :
    val_main_v211 (F := Ideal) x0 x1 x2 x3 x5 x6 (ix4 b s h l)
      = if h1 : l.val < 96 then (if h2 : l.val < 64 then val_main_v72 (F := Ideal) x0 x1 x2 x3 x5 x6 (ix3 b s ⟨h.val * 96 + l.val, by omega⟩)
          else rotary (fun e => val_main_v72 (F := Ideal) x0 x1 x2 x3 x5 x6 (ix3 b s ⟨h.val * 96 + (64 + e.val), by omega⟩)) s.val ⟨l.val - 64, by omega⟩)
          * Ideal.ofBits .f32 0x3DD105EC#32
        else 0 := by
  simp only [← ref_q_rotary]
  unfold val_main_v211 val_main_v119 val_main_v117 val_main_v74 val_main_v73
  generalize val_main_v116 (F := Ideal) x0 x1 x2 x3 x5 x6 = z
  generalize val_main_v72 (F := Ideal) x0 x1 x2 x3 x5 x6 = y
  pointwise [val_main_v118, val_main_cst_10, val_main_v190, val_main_cst_16]

/-- The keys of a head's lanes: 64 plain, 32 rotated. -/
theorem ref_k_lane (b : Fin 4) (s : Fin 4096) (h : Fin 8) (l : Fin 128) :
    val_main_v206 (F := Ideal) x0 x1 x2 x3 x7 x8 (ix4 b s h l)
      = if h1 : l.val < 96 then if h2 : l.val < 64 then val_main_v133 (F := Ideal) x0 x1 x2 x3 x7 x8 (ix3 b s ⟨h.val * 128 + l.val, by omega⟩)
          else rotary (fun e => val_main_v52 (F := Ideal) x0 x1 x2 x3 (ix3 b s ⟨384 + e.val, by omega⟩)) s.val ⟨l.val - 64, by omega⟩
        else 0 := by
  simp only [← ref_k_rotary]
  unfold val_main_v206 val_main_v180 val_main_v179 val_main_v135 val_main_v134
  generalize val_main_v178 (F := Ideal) x0 x1 x2 x3 = z
  generalize val_main_v133 (F := Ideal) x0 x1 x2 x3 x7 x8 = y
  pointwise [val_main_v190, val_main_cst_16]

/-- A flat lane is a head's. -/
theorem ref_q_flat (b : Fin 4) (s : Fin 4096) (d : Fin 1024) :
    val_main_v213 (F := Ideal) x0 x1 x2 x3 x5 x6 (ix2 (row b s) d)
      = val_main_v211 (F := Ideal) x0 x1 x2 x3 x5 x6 (ix4 b s ⟨d.val / 128, by omega⟩ (headLane d)) := by
  unfold val_main_v213 val_main_v212 row headLane
  generalize val_main_v211 (F := Ideal) x0 x1 x2 x3 x5 x6 = y
  pointwise

/-- A flat lane is a head's. -/
theorem ref_k_flat (b : Fin 4) (s : Fin 4096) (d : Fin 1024) :
    val_main_v208 (F := Ideal) x0 x1 x2 x3 x7 x8 (ix2 (row b s) d)
      = val_main_v206 (F := Ideal) x0 x1 x2 x3 x7 x8 (ix4 b s ⟨d.val / 128, by omega⟩ (headLane d)) := by
  unfold val_main_v208 val_main_v207 row headLane
  generalize val_main_v206 (F := Ideal) x0 x1 x2 x3 x7 x8 = y
  pointwise

/-- The phase's table. -/
theorem ref_turn (j k : Fin 256) : val_main_v200 (F := Ideal) (ix2 j k) = turn j.val k.val := by
  have e : val_main_v197 (F := Ideal) (ix2 j k) = floorR (IntOp.muli (BitVec.ofNat 32 j.val) (BitVec.ofNat 32 k.val)) 256#32 := rfl
  rw [val_main_v200_apply, val_main_v198_apply, e]
  rfl

/-- The channel transform: cosines, then sines. -/
theorem ref_f (b : Fin 4) (s : Fin 4096) (d : Fin 512) :
    val_main_v215 (F := Ideal) x0 x1 x2 x3 (ix2 (row b s) d)
      = if h : d.val < 256 then dot (fun e : Fin 256 => tokZ x0 x1 x2 x3 (row b s) ⟨416 + e.val, by omega⟩)
            (fun j k => Ideal.cos (val_main_v200 (F := Ideal) (ix2 j k))) ⟨d.val, h⟩
        else dot (fun e : Fin 256 => tokZ x0 x1 x2 x3 (row b s) ⟨416 + e.val, by omega⟩)
            (fun j k => Ideal.sin (val_main_v200 (F := Ideal) (ix2 j k))) ⟨d.val - 256, by omega⟩ := by
  simp only [← ref_z]
  unfold val_main_v215 val_main_v214 val_main_v205 val_main_v204 val_main_v202 val_main_v203 val_main_v201 val_main_v56 row dot
  generalize val_main_v52 (F := Ideal) x0 x1 x2 x3 = y
  generalize val_main_v200 (F := Ideal) = a
  pointwise

end Cert.InProj

end
-- ==== Proof.InProj.Real.lean ====
/-
  Where the gain and the modulation are finite, a token's modulated norm and its latent row of queries are real numbers, and a sum of negated
  products is the negated sum.
-/
module

public import proofs.«01_k».proof.Proof.Attention.Softmax
public import proofs.«01_k».proof.Proof.InProj.Formulas

@[expose] public section

noncomputable section

namespace Cert.InProj

open Idealize.ShloMosaic Cert.Rows
open Cert.Attention (IsReal isReal_coe isReal_sum)

/-- A positive real number. -/
def IsPos (x : EReal) : Prop := ∃ e : ℝ, 0 < e ∧ x = (e : EReal)

theorem isPos_1024 : IsPos (Ideal.ofBits .f32 0x44800000#32) := by
  simp [IsPos, Ideal.ofBits, Ideal.ieee]
  exact ⟨_, by positivity, (EReal.coe_mul _ _).symm⟩

theorem isPos_256 : IsPos (Ideal.ofBits .f32 0x43800000#32) := by
  simp [IsPos, Ideal.ofBits, Ideal.ieee]
  exact ⟨_, by positivity, (EReal.coe_mul _ _).symm⟩

theorem isPos_eps : IsPos (Ideal.ofBits .f32 0x358637BD#32) := by
  simp [IsPos, Ideal.ofBits, Ideal.ieee]
  exact ⟨_, by positivity, (EReal.coe_mul _ _).symm⟩

theorem isPos_one : IsPos (Ideal.ofBits .f32 0x3F800000#32) := by
  simp [IsPos, Ideal.ofBits, Ideal.ieee]
  exact ⟨_, by positivity, (EReal.coe_mul _ _).symm⟩

theorem isPos_scale : IsPos (Ideal.ofBits .f32 0x3DD105EC#32) := by
  simp [IsPos, Ideal.ofBits, Ideal.ieee]
  exact ⟨_, by positivity, (EReal.coe_mul _ _).symm⟩

theorem IsPos.isReal {x : EReal} (h : IsPos x) : IsReal x := by
  obtain ⟨e, -, rfl⟩ := h
  exact isReal_coe e

/-- A square is not negative. -/
theorem sq_nonneg (a : EReal) : 0 ≤ a * a := by
  induction a with
  | bot => simp
  | top => simp
  | coe a =>
    rw [← EReal.coe_mul]
    exact EReal.coe_nonneg.2 (mul_self_nonneg a)

/-- The sum of squares of a row with an infinite entry is infinite. -/
theorem sum_sq_top {n : ℕ} (x : Fin n → EReal) (i : Fin n) (hi : ¬ IsReal (x i)) : ∑ e, x e * x e = ⊤ := by
  have hx : x i * x i = ⊤ := by
    by_cases h : x i = ⊥
    · rw [h]
      rfl
    · rw [not_not.1 fun h' => hi ⟨h, h'⟩]
      rfl
  have h := Finset.single_le_sum (f := fun e => x e * x e) (fun e _ => sq_nonneg (x e)) (Finset.mem_univ i)
  exact top_le_iff.1 (hx ▸ h)

/-- The inverse root of a mean of squares, kept away from zero, is real. -/
theorem isReal_rsqrt {n : ℕ} (N : BitVec 32) (hN : IsPos (Ideal.ofBits .f32 N)) (x : Fin n → EReal) (hx : ∀ i, IsReal (x i)) :
    IsReal (Ideal.rsqrt (Ideal.div (∑ e, x e * x e) (Ideal.ofBits .f32 N) + Ideal.ofBits .f32 0x358637BD#32)) := by
  obtain ⟨r, hr, er⟩ := hN
  obtain ⟨ε, hε, eε⟩ := isPos_eps
  obtain ⟨s, es⟩ := (isReal_sum Finset.univ (fun e => x e * x e) fun i _ => (hx i).mul (hx i)).lift
  have h0 : (0 : EReal) ≤ ∑ e, x e * x e := Finset.sum_nonneg fun i _ => sq_nonneg (x i)
  have hs : 0 ≤ s := by
    rw [es] at h0
    exact EReal.coe_nonneg.1 h0
  have hr' : (r : EReal) ≠ 0 := fun h => hr.ne' (EReal.coe_eq_zero.1 h)
  have ht : 0 < s * r⁻¹ + ε := by positivity
  rw [es, er, eε, Ideal.div, if_neg hr', ← EReal.coe_inv, ← EReal.coe_mul, ← EReal.coe_add]
  show IsReal (if s * r⁻¹ + ε < 0 then ⊥ else if s * r⁻¹ + ε = 0 then ⊤ else (((Real.sqrt (s * r⁻¹ + ε))⁻¹ : ℝ) : EReal))
  rw [if_neg ht.le.not_gt, if_neg ht.ne']
  exact isReal_coe _

/-- With an infinite entry in the row the inverse root is zero. -/
theorem rsqrt_zero {n : ℕ} (N : BitVec 32) (hN : IsPos (Ideal.ofBits .f32 N)) (x : Fin n → EReal) (i : Fin n) (hi : ¬ IsReal (x i)) :
    Ideal.rsqrt (Ideal.div (∑ e, x e * x e) (Ideal.ofBits .f32 N) + Ideal.ofBits .f32 0x358637BD#32) = 0 := by
  obtain ⟨r, hr, er⟩ := hN
  obtain ⟨ε, hε, eε⟩ := isPos_eps
  have hr' : (r : EReal) ≠ 0 := fun h => hr.ne' (EReal.coe_eq_zero.1 h)
  rw [sum_sq_top x i hi, er, eε, Ideal.div, if_neg hr', ← EReal.coe_inv, EReal.top_mul_coe_of_pos (inv_pos.2 hr), EReal.top_add_coe]
  rfl

/-- A normed row with a real gain is real, also where the row is not: an infinite entry makes the inverse root zero. -/
theorem isReal_normed {n : ℕ} (N : BitVec 32) (hN : IsPos (Ideal.ofBits .f32 N)) (x g : Fin n → EReal) (hg : ∀ i, IsReal (g i))
    (d : Fin n) : IsReal (normed N x g d) := by
  unfold normed unit
  by_cases hx : ∀ i, IsReal (x i)
  · exact ((hx d).mul (isReal_rsqrt N hN x hx)).mul (hg d)
  · obtain ⟨i, hi⟩ := not_forall.1 hx
    rw [rsqrt_zero N hN x i hi, mul_zero, zero_mul]
    exact isReal_coe 0

/-- A modulated norm with real gain, shift and scale is real. -/
theorem isReal_hidden (x g : Fin 1024 → EReal) (md : Fin 6144 → EReal) (hg : ∀ i, IsReal (g i))
    (hm : ∀ e : Fin 6144, e.val < 2048 → IsReal (md e)) (d : Fin 1024) : IsReal (hidden x g md d) :=
  ((isReal_normed _ isPos_1024 x g hg d).mul (isPos_one.isReal.add (hm ⟨1024 + d.val, by omega⟩ (by dsimp only <;> omega)))).add
    (hm ⟨d.val, by omega⟩ (by dsimp only <;> omega))

/-- A sum of negated real numbers is the negated sum. -/
theorem sum_neg_real {ι : Type} (s : Finset ι) (f : ι → EReal) (h : ∀ i, IsReal (f i)) : ∑ i ∈ s, -f i = -∑ i ∈ s, f i := by
  classical
  induction s using Finset.induction_on with
  | empty => simp
  | insert a s ha ih =>
    have hs := isReal_sum s f fun i _ => h i
    rw [Finset.sum_insert ha, Finset.sum_insert ha, ih, EReal.neg_add (Or.inl (h a).1) (Or.inl (h a).2), sub_eq_add_neg]

/-- A real row times a negated real column is the negated product. -/
theorem dot_neg {m n k : ℕ} (x : Fin m → EReal) (v : Fin m → Fin n → EReal) (w : Fin m → Fin k → EReal) (j : Fin n) (e : Fin k)
    (hx : ∀ i, IsReal (x i)) (hw : ∀ i, IsReal (w i e)) (hv : ∀ i, v i j = -w i e) : dot x v j = -dot x w e := by
  unfold dot
  rw [← sum_neg_real _ _ fun i => (hx i).mul (hw i)]
  exact Finset.sum_congr rfl fun i _ => by rw [hv, mul_neg]

/-- Two columns that agree give the same product. -/
theorem dot_col {m n k : ℕ} (x : Fin m → EReal) (v : Fin m → Fin n → EReal) (w : Fin m → Fin k → EReal) (j : Fin n) (e : Fin k)
    (hv : ∀ i, v i j = w i e) : dot x v j = dot x w e :=
  Finset.sum_congr rfl fun i _ => by rw [hv]

/-- A zero column gives zero. -/
theorem dot_zero {m n : ℕ} (x : Fin m → EReal) (v : Fin m → Fin n → EReal) (j : Fin n) (hv : ∀ i, v i j = 0) : dot x v j = 0 :=
  Finset.sum_eq_zero fun i _ => by rw [hv, mul_zero]

end Cert.InProj

end
-- ==== Proof.InProj.Equation.lean ====
/-
  The reference's six results are the token formulas of the kernel: four of them always, the keys and the queries where the arrays
  that their rotated lanes depend on are real.
-/
module

public import proofs.«01_k».proof.Proof.InProj.RefRotary
public import proofs.«01_k».proof.Proof.InProj.Real

@[expose] public section

set_option maxRecDepth 16384

noncomputable section

namespace Cert.InProj

open Cert.Reference3Ideal Cert.Reference3Ideal.Gen Cert.Reference3Ideal.Read Idealize.ShloMosaic Idealize.ShloMosaic.TcCoe Cert.Rows
open Cert.OutProj (modRow)
open Cert.Attention (IsReal)

variable (x0 : FVec Ideal S16384x1024 .f32) (x1 : FVec Ideal S16x6144 .f32) (x2 : FVec Ideal S1024 .f32)
  (x3 : FVec Ideal S1024x4000 .f32) (x4 : FVec Ideal S3072 .f32) (x5 : FVec Ideal S256 .f32) (x6 : FVec Ideal S256x768 .f32)
  (x7 : FVec Ideal S128 .f32) (x8 : FVec Ideal S128x1024 .f32)

/-- A lane of the kernel's projection that holds a column of the weights. -/
theorem tokWall_col (r : Fin 16384) (d : Fin 4224) (e : Fin 4000) (h : ∀ w, wallLane w d = w e) :
    tokWall x0 x1 x2 x3 r d = tokZ x0 x1 x2 x3 r e := dot_col _ _ _ _ _ fun _ => h _

/-- The lanes of the kernel's projection behind the latent rows: the 32 key lanes before them are elsewhere. -/
theorem tokWall_shift (r : Fin 16384) (d : Fin 4224) (e : Fin 4000) (h0 : ¬ d.val < 384) (h : d.val < 3968) (he : e.val = d.val + 32) :
    tokWall x0 x1 x2 x3 r d = tokZ x0 x1 x2 x3 r e := tokWall_col x0 x1 x2 x3 r d e fun w => wall_second w d e h0 h he

theorem tokKV_eq (r : Fin 16384) : tokKV x0 x1 x2 x3 x7 r = latentKV (by decide) (tokZ x0 x1 x2 x3 r) (fun e => x7 (ix1 e)) := by
  unfold tokKV latentKV
  exact congrArg (fun z => normed _ z _) (funext fun e => tokWall_col x0 x1 x2 x3 r _ _ fun w =>
    wall_first w _ _ (by dsimp only <;> omega) rfl)

theorem tokQL_eq (r : Fin 16384) : tokQL x0 x1 x2 x3 x5 r = latentQ (by decide) (tokZ x0 x1 x2 x3 r) (fun e => x5 (ix1 e)) := by
  unfold tokQL latentQ
  exact congrArg (fun z => normed _ z _) (funext fun e => tokWall_col x0 x1 x2 x3 r _ _ fun w =>
    wall_first w _ _ (by dsimp only <;> omega) rfl)

/-- The values. -/
theorem eq_v (b : Fin 4) (s : Fin 4096) (d : Fin 512) :
    val_main_v210 (F := Ideal) x0 x1 x2 x3 x7 x8 (ix2 (row b s) d) = tokV x0 x1 x2 x3 x7 x8 (row b s) d := by
  rw [ref_v, tokV, tokKV_eq]
  rfl

/-- The pooled branch's input. -/
theorem eq_p (b : Fin 4) (s : Fin 4096) (d : Fin 256) :
    val_main_v216 (F := Ideal) x0 x1 x2 x3 (ix2 (row b s) d) = tokP x0 x1 x2 x3 (row b s) d := by
  rw [ref_p, tokP]
  exact (tokWall_shift x0 x1 x2 x3 _ _ _ (by dsimp only <;> omega) (by dsimp only <;> omega) (by dsimp only <;> omega)).symm

/-- The word of one. -/
theorem ofBits_one : Ideal.ofBits .f32 0x3F800000#32 = 1 := by
  simp [Ideal.ofBits, Ideal.ieee]
  rw [← EReal.coe_one, ← EReal.coe_mul]
  norm_num

/-- The gates. -/
theorem eq_g (b : Fin 4) (s : Fin 4096) (d : Fin 3072) :
    val_main_v218 (F := Ideal) x0 x1 x2 x3 x4 (ix2 (row b s) d) = tokG x0 x1 x2 x3 x4 (row b s) d := by
  rw [ref_g, tokG, ofBits_one, tokWall_shift x0 x1 x2 x3 (row b s) ⟨896 + d.val, by omega⟩ ⟨928 + d.val, by omega⟩
    (by dsimp only <;> omega) (by dsimp only <;> omega) (by dsimp only <;> omega)]
  rfl

/-- The channel transform. -/
theorem eq_f (b : Fin 4) (s : Fin 4096) (d : Fin 512) :
    val_main_v215 (F := Ideal) x0 x1 x2 x3 (ix2 (row b s) d) = tokF x0 x1 x2 x3 (row b s) d := by
  have e : (fun e : Fin 256 => tokWall x0 x1 x2 x3 (row b s) ⟨384 + e.val, by omega⟩)
      = fun e : Fin 256 => tokZ x0 x1 x2 x3 (row b s) ⟨416 + e.val, by omega⟩ := funext fun e =>
    tokWall_shift x0 x1 x2 x3 _ _ _ (by dsimp only <;> omega) (by dsimp only <;> omega) (by dsimp only <;> omega)
  rw [ref_f, tokF, e]
  simp only [ref_turn]
  split_ifs with h
  · exact dot_col _ _ _ _ _ fun i => (if_pos h).symm
  · exact dot_col _ _ _ _ _ fun i => (if_neg h).symm

theorem table_lo (a : EReal) (fn : EReal → EReal) (s : ℕ) (l : Fin 128) (h : l.val < 64) : table a fn s l = a := if_pos h

theorem table_mid (a : EReal) (fn : EReal → EReal) (s : ℕ) (l : Fin 128) (h0 : ¬ l.val < 64) (h : l.val < 96) :
    table a fn s l = fn (laneAngle s ⟨l.val - 64, by omega⟩) := (if_neg h0).trans (dif_pos h)

theorem table_hi (a : EReal) (fn : EReal → EReal) (s : ℕ) (l : Fin 128) (h : ¬ l.val < 96) : table a fn s l = 0 :=
  (if_neg (by omega)).trans (dif_neg h)

/-- A token's modulated norm is real where the gain, the shift and the scale are. -/
theorem isReal_tokHidden
    (hm : ∀ (b : Fin 4) (l : Fin 2048), IsReal (x1 (ix2 ⟨b.val, by omega⟩ ⟨l.val, by omega⟩)))
    (hg : ∀ l : Fin 1024, IsReal (x2 (ix1 l))) (b : Fin 4) (s : Fin 4096) (d : Fin 1024) : IsReal (tokHidden x0 x1 x2 (row b s) d) := by
  unfold tokHidden
  rw [modRow_row]
  exact isReal_hidden _ _ _ hg (fun e he => hm b ⟨e.val, he⟩) d

/-- The keys. -/
theorem eq_k (b : Fin 4) (s : Fin 4096) (d : Fin 1024) (hh : ∀ e, IsReal (tokHidden x0 x1 x2 (row b s) e))
    (hw : ∀ (i : Fin 1024) (l : Fin 32), IsReal (x3 (ix2 i ⟨384 + l.val, by omega⟩))) :
    val_main_v208 (F := Ideal) x0 x1 x2 x3 x7 x8 (ix2 (row b s) d) = tokK x0 x1 x2 x3 x7 x8 (row b s) d := by
  rw [ref_k_flat, ref_k_lane, tokK, tokKV_eq, pos_row]
  simp only [ref_kv, ref_z]
  have hl : (headLane d).val = d.val % 128 := rfl
  have hl' := (headLane d).isLt
  split_ifs with h1 h2
  · rw [table_lo _ _ _ _ h2, table_lo _ _ _ _ h2, mul_zero, mul_zero, add_zero, add_zero]
    exact dot_col _ _ _ _ _ fun i => ((if_pos (by omega)).trans (congrArg (fun j => x8 (ix2 i j)) (Fin.ext (by dsimp only <;> omega)))).symm
  · rw [table_mid _ _ _ _ h2 h1, table_mid _ _ _ _ h2 h1, dot_zero _ _ d (fun i => if_neg (by omega)), zero_add,
      tokWall_col x0 x1 x2 x3 (row b s) ⟨3968 + (headLane d).val, by omega⟩ ⟨384 + ((headLane d).val - 64), by omega⟩ (fun w =>
        wall_key w _ _ (by dsimp only <;> omega) (by dsimp only <;> omega) (by dsimp only <;> omega))]
    by_cases h3 : ((headLane d).val - 64) % 16 < 8
    · rw [rotary_lo _ _ ⟨(headLane d).val - 64, by omega⟩ h3]
      have e : tokWall x0 x1 x2 x3 (row b s) ⟨4096 + (headLane d).val, by omega⟩ = -tokZ x0 x1 x2 x3 (row b s) ⟨384 + ((headLane d).val - 64 + 8), by omega⟩ :=
        dot_neg _ _ _ _ _ hh (fun i => hw i ⟨(headLane d).val - 64 + 8, by omega⟩) fun i =>
          wall_lo _ _ _ (by dsimp only <;> omega) (by dsimp only <;> omega) (by dsimp only <;> omega) (by dsimp only <;> omega)
      rw [e, neg_mul, ← sub_eq_add_neg]
    · rw [rotary_hi _ _ ⟨(headLane d).val - 64, by omega⟩ h3, tokWall_col x0 x1 x2 x3 (row b s) ⟨4096 + (headLane d).val, by omega⟩
        ⟨384 + ((headLane d).val - 64 - 8), by omega⟩ (fun w => wall_hi w _ _ (by dsimp only <;> omega) (by dsimp only <;> omega)
          (by dsimp only <;> omega) (by dsimp only <;> omega)), add_comm]
  · rw [table_hi _ _ _ _ h1, table_hi _ _ _ _ h1, mul_zero, mul_zero, add_zero, add_zero]
    exact (dot_zero _ _ d (fun i => if_neg (by omega))).symm

/-- A scale that is a positive real number distributes over a sum. -/
theorem scale_add (a c b s : EReal) : a * (c * qScale) + b * (s * qScale) = (a * c + b * s) * qScale := by
  obtain ⟨e, he, eq⟩ := isPos_scale
  have eS : qScale = (e : EReal) := eq
  rw [eS, EReal.right_distrib_of_nonneg_of_ne_top (EReal.coe_nonneg.2 he.le) (EReal.coe_ne_top e), mul_assoc, mul_assoc]

/-- The queries. -/
theorem eq_q (b : Fin 4) (s : Fin 4096) (d : Fin 1024) (hg : ∀ l : Fin 256, IsReal (x5 (ix1 l)))
    (hu : ∀ (i : Fin 256) (h : Fin 8) (l : Fin 32), IsReal (x6 (ix2 i ⟨h.val * 96 + (64 + l.val), by omega⟩))) :
    val_main_v213 (F := Ideal) x0 x1 x2 x3 x5 x6 (ix2 (row b s) d) = tokQ x0 x1 x2 x3 x5 x6 (row b s) d := by
  rw [ref_q_flat, ref_q_lane, tokQ, tokQL_eq, pos_row]
  simp only [ref_q]
  have hq : ∀ e, IsReal (latentQ (by decide) (tokZ x0 x1 x2 x3 (row b s)) (fun e => x5 (ix1 e)) e) :=
    isReal_normed _ isPos_256 _ _ hg
  generalize latentQ (by decide) (tokZ x0 x1 x2 x3 (row b s)) (fun e => x5 (ix1 e)) = c at *
  have hl : (headLane d).val = d.val % 128 := rfl
  have hl' := (headLane d).isLt
  rw [scale_add]
  split_ifs with h1 h2
  · rw [table_lo _ _ _ _ h2, table_lo _ _ _ _ h2, mul_zero, mul_one, add_zero]
    exact congrArg (· * qScale) (dot_col _ _ _ _ _ fun i => ((dif_pos (show d.val % 128 < 96 by omega)).trans
      (congrArg (fun j => x6 (ix2 i j)) (Fin.ext (by dsimp only <;> omega)))).symm)
  · rw [table_mid _ _ _ _ h2 h1, table_mid _ _ _ _ h2 h1]
    refine congrArg (· * qScale) ?_
    have eA : dot c (fun i => headQuery fun e => x6 (ix2 i e)) d
        = dot c (fun i j => x6 (ix2 i j)) ⟨d.val / 128 * 96 + (64 + ((headLane d).val - 64)), by omega⟩ :=
      dot_col _ _ _ _ _ fun i => (dif_pos (show d.val % 128 < 96 by omega)).trans
        (congrArg (fun j => x6 (ix2 i j)) (Fin.ext (by dsimp only <;> omega)))
    rw [eA]
    by_cases h3 : ((headLane d).val - 64) % 16 < 8
    · rw [rotary_lo _ _ ⟨(headLane d).val - 64, by omega⟩ h3]
      have e : dot c (fun i => headPartner fun e => x6 (ix2 i e)) d
          = -dot c (fun i j => x6 (ix2 i j)) ⟨d.val / 128 * 96 + (64 + ((headLane d).val - 64 + 8)), by omega⟩ :=
        dot_neg _ _ _ _ _ hq (fun i => hu i ⟨d.val / 128, by omega⟩ ⟨(headLane d).val - 64 + 8, by omega⟩) fun i =>
          headPartner_lo _ _ _ (by omega) (by omega) (by omega) (by dsimp only <;> omega)
      rw [e, neg_mul, ← sub_eq_add_neg]
    · rw [rotary_hi _ _ ⟨(headLane d).val - 64, by omega⟩ h3]
      have e : dot c (fun i => headPartner fun e => x6 (ix2 i e)) d
          = dot c (fun i j => x6 (ix2 i j)) ⟨d.val / 128 * 96 + (64 + ((headLane d).val - 64 - 8)), by omega⟩ :=
        dot_col _ _ _ _ _ fun i => headPartner_hi _ _ _ (by omega) (by omega) (by omega) (by dsimp only <;> omega)
      rw [e, add_comm]
  · rw [table_hi _ _ _ _ h1, table_hi _ _ _ _ h1, mul_zero, mul_zero, add_zero, zero_mul]

end Cert.InProj

end
-- ==== Proof.InProj.Finite.lean ====
/-
  What the precondition gives: the entries of the arrays that the rotated lanes depend on are real numbers.
-/
module

public import proofs.«01_k».proof.Proof.Gen.Pre_finite_rotary
public import proofs.«01_k».proof.Proof.Attention.Finite

@[expose] public section

noncomputable section

namespace Cert.InProj

open Cert.Pre_finite_rotary Idealize.ShloMosaic
open Cert.Attention (IsReal isReal_of_abs_lt)

variable (x0 : FVec Ideal S16384x1024 .f32) (x1 : FVec Ideal S16x6144 .f32) (x2 : FVec Ideal S1024 .f32)
  (x3 : FVec Ideal S1024x4000 .f32) (x4 : FVec Ideal S3072 .f32) (x5 : FVec Ideal S256 .f32) (x6 : FVec Ideal S256x768 .f32)
  (x7 : FVec Ideal S128 .f32) (x8 : FVec Ideal S128x1024 .f32)

/-- The modulation's shift and scale of the four batches are real. -/
theorem isReal_mod (h : (Cert.Pre_finite_rotary.fn (F := Ideal) x0 x1 x2 x3 x4 x5 x6 x7 x8).1 = fun _ => 1#1) (b : Fin 4) (l : Fin 2048) :
    IsReal (x1 (ix2 ⟨b.val, by omega⟩ ⟨l.val, by omega⟩)) := by
  refine isReal_of_abs_lt (Eq.trans ?_ (congrFun h (ix2 b l)))
  pointwise [Cert.Pre_finite_rotary.fn]

/-- The norm's gain is real. -/
theorem isReal_gain (h : (Cert.Pre_finite_rotary.fn (F := Ideal) x0 x1 x2 x3 x4 x5 x6 x7 x8).2.1 = fun _ => 1#1) (l : Fin 1024) :
    IsReal (x2 (ix1 l)) := by
  refine isReal_of_abs_lt (Eq.trans ?_ (congrFun h (ix1 l)))
  pointwise [Cert.Pre_finite_rotary.fn]

/-- The weights of the keys' rotary lanes are real. -/
theorem isReal_wk (h : (Cert.Pre_finite_rotary.fn (F := Ideal) x0 x1 x2 x3 x4 x5 x6 x7 x8).2.2.1 = fun _ => 1#1) (i : Fin 1024) (l : Fin 32) :
    IsReal (x3 (ix2 i ⟨384 + l.val, by omega⟩)) := by
  refine isReal_of_abs_lt (Eq.trans ?_ (congrFun h (ix2 i l)))
  pointwise [Cert.Pre_finite_rotary.fn]

/-- The gain of the queries' latent row is real. -/
theorem isReal_gq (h : (Cert.Pre_finite_rotary.fn (F := Ideal) x0 x1 x2 x3 x4 x5 x6 x7 x8).2.2.2.1 = fun _ => 1#1) (l : Fin 256) :
    IsReal (x5 (ix1 l)) := by
  refine isReal_of_abs_lt (Eq.trans ?_ (congrFun h (ix1 l)))
  pointwise [Cert.Pre_finite_rotary.fn]

/-- The weights of the queries' rotary lanes are real. -/
theorem isReal_uq (h : (Cert.Pre_finite_rotary.fn (F := Ideal) x0 x1 x2 x3 x4 x5 x6 x7 x8).2.2.2.2 = fun _ => 1#1) (i : Fin 256)
    (hd : Fin 8) (l : Fin 32) : IsReal (x6 (ix2 i ⟨hd.val * 96 + (64 + l.val), by omega⟩)) := by
  refine isReal_of_abs_lt (Eq.trans ?_ (congrFun h (ix3 i hd l)))
  pointwise [Cert.Pre_finite_rotary.fn]

end Cert.InProj

end
-- ==== Proof.InProj.Claim.lean ====
/-
  The claims about the input projection: the frame of the reference, and the value claim, that where the arrays which the rotated
  lanes depend on are finite the kernel's six arrays and the reference's are the same arrays of extended reals.
-/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.InProj.Final
public import proofs.«01_k».proof.Proof.InProj.Equation
public import proofs.«01_k».proof.Proof.InProj.Finite

@[expose] public section

set_option maxRecDepth 16384

noncomputable section

namespace Cert.InProj

open Idealize.ShloMosaic Idealize.SL.Sem
open Cert.Reference3Ideal (S16384x1024 S16384x512 S16384x256 S16384x3072 S16x6144 S1024 S1024x4000 S3072 S256 S256x768 S128 S128x1024)
open Cert.Attention (IsReal)

/-- The reference's frame, with every counter at zero at the end. -/
theorem frame_ri : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

-- The layer's arrays: tokens, modulation, the norm's gain, the weights, the gates' bias, and the latents' gains and weights.
variable (x0 : FVec Ideal S16384x1024 .f32) (x1 : FVec Ideal S16x6144 .f32) (x2 : FVec Ideal S1024 .f32)
  (x3 : FVec Ideal S1024x4000 .f32) (x4 : FVec Ideal S3072 .f32) (x5 : FVec Ideal S256 .f32) (x6 : FVec Ideal S256x768 .f32)
  (x7 : FVec Ideal S128 .f32) (x8 : FVec Ideal S128x1024 .f32)

/-- The reference's array of the keys. -/
theorem ref_k_array
    (h1 : ∀ (b : Fin 4) (l : Fin 2048), IsReal (x1 (ix2 ⟨b.val, by omega⟩ ⟨l.val, by omega⟩)))
    (h2 : ∀ l : Fin 1024, IsReal (x2 (ix1 l))) (h3 : ∀ (i : Fin 1024) (l : Fin 32), IsReal (x3 (ix2 i ⟨384 + l.val, by omega⟩))) :
    Cert.Reference3Ideal.Read.val_main_v208 (F := Ideal) x0 x1 x2 x3 x7 x8 = fun i : S16384x1024.Idx => tokK x0 x1 x2 x3 x7 x8 (i 0) (i 1) := by
  funext i
  idx_vars i
  obtain ⟨b, s, rfl⟩ := row_surj i0
  exact eq_k x0 x1 x2 x3 x7 x8 b s i1 (isReal_tokHidden x0 x1 x2 h1 h2 b s) h3

/-- The reference's array of the values. -/
theorem ref_v_array :
    Cert.Reference3Ideal.Read.val_main_v210 (F := Ideal) x0 x1 x2 x3 x7 x8 = fun i : S16384x512.Idx => tokV x0 x1 x2 x3 x7 x8 (i 0) (i 1) := by
  funext i
  idx_vars i
  obtain ⟨b, s, rfl⟩ := row_surj i0
  exact eq_v x0 x1 x2 x3 x7 x8 b s i1

/-- The reference's array of the queries. -/
theorem ref_q_array (h5 : ∀ l : Fin 256, IsReal (x5 (ix1 l)))
    (h6 : ∀ (i : Fin 256) (h : Fin 8) (l : Fin 32), IsReal (x6 (ix2 i ⟨h.val * 96 + (64 + l.val), by omega⟩))) :
    Cert.Reference3Ideal.Read.val_main_v213 (F := Ideal) x0 x1 x2 x3 x5 x6 = fun i : S16384x1024.Idx => tokQ x0 x1 x2 x3 x5 x6 (i 0) (i 1) := by
  funext i
  idx_vars i
  obtain ⟨b, s, rfl⟩ := row_surj i0
  exact eq_q x0 x1 x2 x3 x5 x6 b s i1 h5 h6

/-- The reference's array of the channel transform. -/
theorem ref_f_array :
    Cert.Reference3Ideal.Read.val_main_v215 (F := Ideal) x0 x1 x2 x3 = fun i : S16384x512.Idx => tokF x0 x1 x2 x3 (i 0) (i 1) := by
  funext i
  idx_vars i
  obtain ⟨b, s, rfl⟩ := row_surj i0
  exact eq_f x0 x1 x2 x3 b s i1

/-- The reference's array of the pooled branch's input. -/
theorem ref_p_array :
    Cert.Reference3Ideal.Read.val_main_v216 (F := Ideal) x0 x1 x2 x3 = fun i : S16384x256.Idx => tokP x0 x1 x2 x3 (i 0) (i 1) := by
  funext i
  idx_vars i
  obtain ⟨b, s, rfl⟩ := row_surj i0
  exact eq_p x0 x1 x2 x3 b s i1

/-- The reference's array of the gates. -/
theorem ref_g_array :
    Cert.Reference3Ideal.Read.val_main_v218 (F := Ideal) x0 x1 x2 x3 x4 = fun i : S16384x3072.Idx => tokG x0 x1 x2 x3 x4 (i 0) (i 1) := by
  funext i
  idx_vars i
  obtain ⟨b, s, rfl⟩ := row_surj i0
  exact eq_g x0 x1 x2 x3 x4 b s i1

/-- The value claim. -/
theorem algebraic : Cert.algebraic_Kernel3Ideal_Reference3Ideal_pre_finite_rotary := fun m g m' g' hpre hag =>
  ⟨fun c => fun i : Cert.Kernel3Ideal.S16384x1024.Idx => tokK
        (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg7)) (m (c.tc.loc Cert.Kernel3Ideal.main_arg8)) (i 0) (i 1),
    fun c => fun i : Cert.Kernel3Ideal.S16384x512.Idx => tokV
        (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg7)) (m (c.tc.loc Cert.Kernel3Ideal.main_arg8)) (i 0) (i 1),
    fun c => fun i : Cert.Kernel3Ideal.S16384x1024.Idx => tokQ
        (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg5)) (m (c.tc.loc Cert.Kernel3Ideal.main_arg6)) (i 0) (i 1),
    fun c => fun i : Cert.Kernel3Ideal.S16384x512.Idx => tokF
        (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (i 0) (i 1),
    fun c => fun i : Cert.Kernel3Ideal.S16384x256.Idx => tokP
        (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (i 0) (i 1),
    fun c => fun i : Cert.Kernel3Ideal.S16384x3072.Idx => tokG
        (m (c.tc.loc Cert.Kernel3Ideal.main_arg0)) (m (c.tc.loc Cert.Kernel3Ideal.main_arg1)) (m (c.tc.loc Cert.Kernel3Ideal.main_arg2)) (m (c.tc.loc Cert.Kernel3Ideal.main_arg3)) (m (c.tc.loc Cert.Kernel3Ideal.main_arg4)) (i 0) (i 1),
    (θ_run Cert.Kernel3Ideal.defs _ _).mono (fun _ h c => ⟨((h.1 c).1 16).trans (final16 m c),
        ((h.1 c).1 17).trans (final17 m c),
        ((h.1 c).1 18).trans (final18 m c),
        ((h.1 c).1 19).trans (final19 m c),
        ((h.1 c).1 20).trans (final20 m c),
        ((h.1 c).1 21).trans (final21 m c), h.2 c⟩)
      (θ_run_and (Cert.Kernel3Ideal.Gen.run_main (F := Ideal) m g) (Cert.Kernel3Ideal.Gen.unchanged (F := Ideal) m g)),
    (θ_run Cert.Reference3Ideal.defs _ _).mono (fun _ h c => ⟨by
        obtain ⟨e0, e1, e2, e3, e4, e5, e6, e7, e8⟩ := hag c
        obtain ⟨p1, p2, p4, p5, p6⟩ := hpre c
        refine (h c).1.trans ?_
        rw [Cert.Reference3Ideal.Read.val_main_v208_eq]
        show Cert.Reference3Ideal.Read.val_main_v208 (F := Ideal) (m' (c.tc.loc Cert.Reference3Ideal.main_arg0))
          (m' (c.tc.loc Cert.Reference3Ideal.main_arg1))
          (m' (c.tc.loc Cert.Reference3Ideal.main_arg2))
          (m' (c.tc.loc Cert.Reference3Ideal.main_arg3))
          (m' (c.tc.loc Cert.Reference3Ideal.main_arg7))
          (m' (c.tc.loc Cert.Reference3Ideal.main_arg8)) = _
        rw [e0, e1, e2, e3, e7, e8]
        exact ref_k_array _ _ _ _ _ _ (isReal_mod _ _ _ _ _ _ _ _ _ p1) (isReal_gain _ _ _ _ _ _ _ _ _ p2) (isReal_wk _ _ _ _ _ _ _ _ _ p4), by
        obtain ⟨e0, e1, e2, e3, e4, e5, e6, e7, e8⟩ := hag c
        refine (h c).2.1.trans ?_
        rw [Cert.Reference3Ideal.Read.val_main_v210_eq]
        show Cert.Reference3Ideal.Read.val_main_v210 (F := Ideal) (m' (c.tc.loc Cert.Reference3Ideal.main_arg0))
          (m' (c.tc.loc Cert.Reference3Ideal.main_arg1))
          (m' (c.tc.loc Cert.Reference3Ideal.main_arg2))
          (m' (c.tc.loc Cert.Reference3Ideal.main_arg3))
          (m' (c.tc.loc Cert.Reference3Ideal.main_arg7))
          (m' (c.tc.loc Cert.Reference3Ideal.main_arg8)) = _
        rw [e0, e1, e2, e3, e7, e8]
        exact ref_v_array _ _ _ _ _ _, by
        obtain ⟨e0, e1, e2, e3, e4, e5, e6, e7, e8⟩ := hag c
        obtain ⟨p1, p2, p4, p5, p6⟩ := hpre c
        refine (h c).2.2.1.trans ?_
        rw [Cert.Reference3Ideal.Read.val_main_v213_eq]
        show Cert.Reference3Ideal.Read.val_main_v213 (F := Ideal) (m' (c.tc.loc Cert.Reference3Ideal.main_arg0))
          (m' (c.tc.loc Cert.Reference3Ideal.main_arg1))
          (m' (c.tc.loc Cert.Reference3Ideal.main_arg2))
          (m' (c.tc.loc Cert.Reference3Ideal.main_arg3))
          (m' (c.tc.loc Cert.Reference3Ideal.main_arg5))
          (m' (c.tc.loc Cert.Reference3Ideal.main_arg6)) = _
        rw [e0, e1, e2, e3, e5, e6]
        exact ref_q_array _ _ _ _ _ _ (isReal_gq _ _ _ _ _ _ _ _ _ p5) (isReal_uq _ _ _ _ _ _ _ _ _ p6), by
        obtain ⟨e0, e1, e2, e3, e4, e5, e6, e7, e8⟩ := hag c
        refine (h c).2.2.2.1.trans ?_
        rw [Cert.Reference3Ideal.Read.val_main_v215_eq]
        show Cert.Reference3Ideal.Read.val_main_v215 (F := Ideal) (m' (c.tc.loc Cert.Reference3Ideal.main_arg0))
          (m' (c.tc.loc Cert.Reference3Ideal.main_arg1))
          (m' (c.tc.loc Cert.Reference3Ideal.main_arg2))
          (m' (c.tc.loc Cert.Reference3Ideal.main_arg3)) = _
        rw [e0, e1, e2, e3]
        exact ref_f_array _ _ _ _, by
        obtain ⟨e0, e1, e2, e3, e4, e5, e6, e7, e8⟩ := hag c
        refine (h c).2.2.2.2.1.trans ?_
        rw [Cert.Reference3Ideal.Read.val_main_v216_eq]
        show Cert.Reference3Ideal.Read.val_main_v216 (F := Ideal) (m' (c.tc.loc Cert.Reference3Ideal.main_arg0))
          (m' (c.tc.loc Cert.Reference3Ideal.main_arg1))
          (m' (c.tc.loc Cert.Reference3Ideal.main_arg2))
          (m' (c.tc.loc Cert.Reference3Ideal.main_arg3)) = _
        rw [e0, e1, e2, e3]
        exact ref_p_array _ _ _ _, by
        obtain ⟨e0, e1, e2, e3, e4, e5, e6, e7, e8⟩ := hag c
        refine (h c).2.2.2.2.2.1.trans ?_
        rw [Cert.Reference3Ideal.Read.val_main_v218_eq]
        show Cert.Reference3Ideal.Read.val_main_v218 (F := Ideal) (m' (c.tc.loc Cert.Reference3Ideal.main_arg0))
          (m' (c.tc.loc Cert.Reference3Ideal.main_arg1))
          (m' (c.tc.loc Cert.Reference3Ideal.main_arg2))
          (m' (c.tc.loc Cert.Reference3Ideal.main_arg3))
          (m' (c.tc.loc Cert.Reference3Ideal.main_arg4)) = _
        rw [e0, e1, e2, e3, e4]
        exact ref_g_array _ _ _ _ _, (h c).2.2.2.2.2.2⟩)
      (Cert.Reference3Ideal.Value.run (F := Ideal) m' g')⟩

end Cert.InProj

end
-- ==== Proof.Modulation.Formulas.lean ====
/-
  The modulation of one layer, as functions of the conditioning rows, the layer's weights and its bias.
-/
module

public import proofs.«01_k».proof.Proof.Rows

@[expose] public section

noncomputable section

namespace Cert.Modulation

open Idealize.ShloMosaic Cert.Rows

/-- The conditioning rows: 8 of the batch, one of the context, and zeros. -/
def condRow (c : Fin 8 → Fin 1024 → EReal) (k : Fin 1024 → EReal) (r : Fin 16) (e : Fin 1024) : EReal :=
  if h : r.val < 8 then c ⟨r.val, h⟩ e else if r.val < 9 then k e else Ideal.ofBits .f32 0x00000000#32

/-- A row times its logistic. -/
def silu {n : ℕ} (x : Fin n → EReal) (e : Fin n) : EReal := x e * Ideal.logistic (x e)

/-- A modulation row: the activated row through the weights, and the bias. -/
def modulation (x : Fin 1024 → EReal) (w : Fin 1024 → Fin 6144 → EReal) (b : Fin 6144 → EReal) (d : Fin 6144) : EReal :=
  dot (silu x) w d + b d

end Cert.Modulation

end
-- ==== Proof.Modulation.Block.lean ====
/-
  What one grid point of the modulation stores: 1536 lanes of the 16 modulation rows of one layer.
-/
module

public import proofs.«01_k».proof.Proof.Gen.Kernel4Ideal.Frame
public import proofs.«01_k».proof.Proof.Modulation.Formulas
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Modulation

open Cert.Kernel4Ideal Cert.Kernel4Ideal.Gen Idealize.ShloMosaic Idealize.ShloMosaic.TcCoe Cert.Rows
open Idealize.ShloMosaic.Pipeline (Dat)

/-- The product with a block of the weights. -/
theorem dot1536 (a : FVec Ideal S16x1024 .f32) (w : FVec Ideal S1024x1536 .f32) (r : Fin 16) (d : Fin 1536) :
    (matmul dot_S16x1024_S1024x1536_S16x1536_1_0_0_1_n_n (some .fp32) a w (constant S16x1536 .f32 0x00000000#32) : FVec Ideal S16x1536 .f32) (ix2 r d)
      = dot (fun i => a (ix2 r i)) (fun i j => w (ix2 i j)) d := by
  unfold dot
  pointwise

/-- A row of a block, as it is stored. -/
theorem out3_apply (x0 : Vec Ideal S16x1024 .f32) (x1 : Vec Ideal S1x1024x1536 .f32) (x2 : Vec Ideal S1x1x1536 .f32) (r : Fin 16)
    (d : Fin 1536) :
    out0_3 x0 x1 x2 (ix3 0 r d)
      = dot (silu fun e => x0 (ix2 r e)) (fun i j => x1 (ix3 0 i j)) d + x2 (ix3 0 0 d) := by
  frame_out
  unfold k0_pay1 dot silu
  pointwise

variable (m : (ℓ : Loc nD τ sig) → Buf (Elt Ideal) ℓ)

/-- Where each window's block lies at a grid point, in blocks. -/
theorem idx : ∀ t : Fin grid0.N,
    win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] := by
  decide +kernel

/-- The grid coordinates are below the grid's sizes. -/
theorem coords_lt : ∀ t : Fin grid0.N, (grid0.coords t 0).val < 2 ∧ (grid0.coords t 1).val < 4 := by
  decide +kernel

/-- The layer of a grid point. -/
def layer (t : Fin grid0.N) : Fin 2 := ⟨(grid0.coords t 0).val, (coords_lt t).1⟩

/-- Lane `d` of a grid point's block, in the row. -/
def lane (t : Fin grid0.N) (d : Fin 1536) : Fin 6144 :=
  ⟨(grid0.coords t 1).val * 1536 + d.val, by have := (coords_lt t).2; omega⟩

/-- The conditioning rows that the host code joins. -/
theorem cond_apply (c : Dev nD) (r : Fin 16) (e : Fin 1024) :
    (V m c main_v2 : S16x1024.Idx → EReal) (ix2 r e)
      = condRow (fun i j => m ((c : Thread nD τ).loc main_arg0) (ix2 i j)) (fun j => m ((c : Thread nD τ).loc main_arg1) (ix1 j)) r e := by
  unfold condRow
  after_reads_at
  split_ifs
  all_goals try (exfalso; omega)
  all_goals try after_reads_at
  all_goals try rfl
  · rw [if_pos (by omega)]
    try rfl
  · rw [if_neg (by omega)]
    try rfl

theorem read0 (c : Dev nD) (t : Fin grid0.N) (r : Fin 16) (e : Fin 1024) :
    iblk m c 0 t (ix2 r e)
      = condRow (fun i j => m ((c : Thread nD τ).loc main_arg0) (ix2 i j)) (fun j => m ((c : Thread nD τ).loc main_arg1) (ix1 j)) r e := by
  rw [← cond_apply]
  blk_ext [iblk, idx t]

theorem read1 (c : Dev nD) (t : Fin grid0.N) (i : Fin 1024) (d : Fin 1536) :
    iblk m c 1 t (ix3 0 i d) = m ((c : Thread nD τ).loc main_arg2) (ix3 (layer t) i (lane t d)) := by
  blk_ext! [iblk, V, idx t, layer, lane]

theorem read2 (c : Dev nD) (t : Fin grid0.N) (d : Fin 1536) :
    iblk m c 2 t (ix3 0 0 d) = m ((c : Thread nD τ).loc main_arg3) (ix2 (layer t) (lane t d)) := by
  blk_ext! [iblk, V, idx t, layer, lane]

/-- Where an output block's element lies, in the array. -/
theorem place3 (t : Fin grid0.N) (y1 : Fin 16) (y2 : Fin 1536) :
    (((View.whole main_v4).slice (win0_3.rect t)).emb (ix3 0 y1 y2) : S2x16x6144.Idx) = ix3 (layer t) y1 (lane t y2) := by
  blk_ext [idx t, layer, lane]

/-- The array of the modulation after the run. -/
theorem final3 (c : Dev nD) : (dats m 0 c).arrAt 3 cfg0.N = fun i : S2x16x6144.Idx =>
    modulation (condRow (fun i j => m ((c : Thread nD τ).loc main_arg0) (ix2 i j)) (fun j => m ((c : Thread nD τ).loc main_arg1) (ix1 j)) (i 1))
      (fun k j => m ((c : Thread nD τ).loc main_arg2) (ix3 (i 0) k j)) (fun j => m ((c : Thread nD τ).loc main_arg3) (ix2 (i 0) j)) (i 2) := by
  refine (dats m 0 c).arrAt_eq_of_covers 3 _ (by decide +kernel) fun t hf y => ?_
  blk_simp
  rw [after0_3]
  idx_vars y
  obtain rfl : y0 = 0 := Subsingleton.elim _ _
  rw [place3, out3_apply, read2]
  simp only [read0, read1]
  rfl

end Cert.Modulation

end
-- ==== Proof.Modulation.Reference.lean ====
/-
  What the reference of the modulation computes, at an index.
-/
module

public import proofs.«01_k».proof.Proof.Gen.Reference4Ideal.Read
public import proofs.«01_k».proof.Proof.InProj.Equation
public import proofs.«01_k».proof.Proof.Modulation.Formulas

@[expose] public section

set_option maxRecDepth 16384

noncomputable section

namespace Cert.Modulation

open Cert.Reference4Ideal Cert.Reference4Ideal.Gen Cert.Reference4Ideal.Read Idealize.ShloMosaic Idealize.ShloMosaic.TcCoe Cert.Rows

variable (x0 : FVec Ideal S8x1024 .f32) (x1 : FVec Ideal S1024 .f32) (x2 : FVec Ideal S2x1024x6144 .f32) (x3 : FVec Ideal S2x6144 .f32)

/-- The conditioning rows. -/
theorem ref_cond (r : Fin 16) (e : Fin 1024) :
    val_main_v2 (F := Ideal) x0 x1 (ix2 r e) = condRow (fun i j => x0 (ix2 i j)) (fun j => x1 (ix1 j)) r e := by
  unfold condRow
  pointwise [val_main_v2, val_main_v0, val_main_v1, val_main_cst]
  split_ifs <;> first | rfl | (exfalso; omega)

/-- The activated rows, for the first layer. -/
theorem ref_silu0 (r : Fin 16) (e : Fin 1024) :
    val_main_v3 (F := Ideal) x0 x1 (ix2 r e) = silu (condRow (fun i j => x0 (ix2 i j)) (fun j => x1 (ix1 j)) r) e := by
  unfold silu Ideal.logistic
  rw [← ref_cond, ← Cert.InProj.ofBits_one]
  unfold val_main_v3 val_main_call0_v5 val_main_call0_v3 val_main_call0_v1 val_main_call0_v0
  generalize val_main_v2 (F := Ideal) x0 x1 = y
  pointwise [val_main_call0_v4, val_main_call0_cst_0, val_main_call0_v2, val_main_call0_cst]

/-- The activated rows, for the second layer. -/
theorem ref_silu1 (r : Fin 16) (e : Fin 1024) :
    val_main_v12 (F := Ideal) x0 x1 (ix2 r e) = silu (condRow (fun i j => x0 (ix2 i j)) (fun j => x1 (ix1 j)) r) e := by
  unfold silu Ideal.logistic
  rw [← ref_cond, ← Cert.InProj.ofBits_one]
  unfold val_main_v12 val_main_call1_v5 val_main_call1_v3 val_main_call1_v1 val_main_call1_v0
  generalize val_main_v2 (F := Ideal) x0 x1 = y
  pointwise [val_main_call1_v4, val_main_call1_cst_0, val_main_call1_v2, val_main_call1_cst]

/-- The first layer's rows. -/
theorem ref_layer0 (r : Fin 16) (d : Fin 6144) :
    val_main_v11 (F := Ideal) x0 x1 x2 x3 (ix2 r d)
      = modulation (condRow (fun i j => x0 (ix2 i j)) (fun j => x1 (ix1 j)) r) (fun k j => x2 (ix3 0 k j)) (fun j => x3 (ix2 0 j)) d := by
  unfold modulation dot
  simp only [← ref_silu0]
  unfold val_main_v11 val_main_v6
  generalize val_main_v3 (F := Ideal) x0 x1 = y
  pointwise [val_main_v5, val_main_v4, val_main_v10, val_main_v9, val_main_v8, val_main_v7]

/-- The second layer's rows. -/
theorem ref_layer1 (r : Fin 16) (d : Fin 6144) :
    val_main_v20 (F := Ideal) x0 x1 x2 x3 (ix2 r d)
      = modulation (condRow (fun i j => x0 (ix2 i j)) (fun j => x1 (ix1 j)) r) (fun k j => x2 (ix3 1 k j)) (fun j => x3 (ix2 1 j)) d := by
  unfold modulation dot
  simp only [← ref_silu1]
  unfold val_main_v20 val_main_v15
  generalize val_main_v12 (F := Ideal) x0 x1 = y
  pointwise [val_main_v14, val_main_v13, val_main_v19, val_main_v18, val_main_v17, val_main_v16]

/-- The two layers' rows, in one array. -/
theorem ref_array :
    val_main_v23 (F := Ideal) x0 x1 x2 x3 = fun i : S2x16x6144.Idx =>
      modulation (condRow (fun i j => x0 (ix2 i j)) (fun j => x1 (ix1 j)) (i 1)) (fun k j => x2 (ix3 (i 0) k j)) (fun j => x3 (ix2 (i 0) j)) (i 2) := by
  funext i
  idx_vars i
  show _ = modulation (condRow (fun i j => x0 (ix2 i j)) (fun j => x1 (ix1 j)) i1) (fun k j => x2 (ix3 i0 k j)) (fun j => x3 (ix2 i0 j)) i2
  unfold val_main_v23 val_main_v21 val_main_v22
  have h0 := ref_layer0 x0 x1 x2 x3 i1 i2
  have h1 := ref_layer1 x0 x1 x2 x3 i1 i2
  generalize val_main_v11 (F := Ideal) x0 x1 x2 x3 = y0 at *
  generalize val_main_v20 (F := Ideal) x0 x1 x2 x3 = y1 at *
  obtain rfl | rfl : i0 = 0 ∨ i0 = 1 := by omega
  · rw [← h0]
    pointwise
  · rw [← h1]
    pointwise

end Cert.Modulation

end
-- ==== Proof.Modulation.Claim.lean ====
/-
  The claims about the modulation: the frame of the reference, and the value claim, that the kernel's array and the reference's are
  the same array of extended reals.
-/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Modulation.Block
public import proofs.«01_k».proof.Proof.Modulation.Reference

@[expose] public section

set_option maxRecDepth 16384

noncomputable section

namespace Cert.Modulation

open Idealize.ShloMosaic Idealize.SL.Sem

/-- The reference's frame, with every counter at zero at the end. -/
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The value claim. -/
theorem algebraic : Cert.algebraic_Kernel4Ideal_Reference4Ideal := fun m g m' g' _ hag =>
  ⟨fun c => fun i : Cert.Kernel4Ideal.S2x16x6144.Idx => modulation
        (condRow (fun i j => m (c.tc.loc Cert.Kernel4Ideal.main_arg0) (ix2 i j)) (fun j => m (c.tc.loc Cert.Kernel4Ideal.main_arg1) (ix1 j)) (i 1))
        (fun k j => m (c.tc.loc Cert.Kernel4Ideal.main_arg2) (ix3 (i 0) k j)) (fun j => m (c.tc.loc Cert.Kernel4Ideal.main_arg3) (ix2 (i 0) j)) (i 2),
    (θ_run Cert.Kernel4Ideal.defs _ _).mono (fun _ h c => ⟨((h.1 c).1 3).trans (final3 m c), h.2 c⟩)
      (θ_run_and (Cert.Kernel4Ideal.Gen.run_main (F := Ideal) m g) (Cert.Kernel4Ideal.Gen.unchanged (F := Ideal) m g)),
    (θ_run Cert.Reference4Ideal.defs _ _).mono (fun _ h c => ⟨by
        obtain ⟨e0, e1, e2, e3⟩ := hag c
        refine (h c).1.trans ?_
        rw [Cert.Reference4Ideal.Read.val_main_v23_eq]
        show Cert.Reference4Ideal.Read.val_main_v23 (F := Ideal) (m' (c.tc.loc Cert.Reference4Ideal.main_arg0))
          (m' (c.tc.loc Cert.Reference4Ideal.main_arg1)) (m' (c.tc.loc Cert.Reference4Ideal.main_arg2))
          (m' (c.tc.loc Cert.Reference4Ideal.main_arg3)) = _
        rw [e0, e1, e2, e3]
        exact ref_array _ _ _ _, (h c).2⟩)
      (Cert.Reference4Ideal.Value.run (F := Ideal) m' g')⟩

end Cert.Modulation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Attention.Claim
public import proofs.«01_k».proof.Proof.OutProj.Claim
public import proofs.«01_k».proof.Proof.InProj.Claim
public import proofs.«01_k».proof.Proof.Modulation.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Pre_finite_scores.Gen.facts, Cert.Pre_finite_rotary.Gen.facts,
  fun m ρ _ => Cert.Kernel.Gen.frame m ρ, fun m ρ _ => Cert.KernelIdeal.Gen.frame m ρ, fun m ρ _ => Cert.KernelIdeal.Gen.frame m ρ,
  Cert.Attention.frame_ri, fun m ρ _ => Cert.Attention.frame_ri m ρ trivial,
  fun m ρ _ => Cert.Kernel2.Gen.frame m ρ, fun m ρ _ => Cert.Kernel2Ideal.Gen.frame m ρ, Cert.OutProj.frame_ri,
  fun m ρ _ => Cert.Kernel3.Gen.frame m ρ, fun m ρ _ => Cert.Kernel3Ideal.Gen.frame m ρ, fun m ρ _ => Cert.Kernel3Ideal.Gen.frame m ρ,
  Cert.InProj.frame_ri, fun m ρ _ => Cert.InProj.frame_ri m ρ trivial,
  fun m ρ _ => Cert.Kernel4.Gen.frame m ρ, fun m ρ _ => Cert.Kernel4Ideal.Gen.frame m ρ, Cert.Modulation.frame_ri,
  trivial, Cert.Attention.algebraic, trivial, Cert.OutProj.algebraic, trivial, Cert.InProj.algebraic,
  trivial, Cert.Modulation.algebraic⟩

end Cert.Proof

end
